-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_query_scales [hPre_positive_query_scales : Cert.Pre_positive_query_scales.Facts] (m : (ℓ : Loc Cert.KernelIdeal.nD Cert.KernelIdeal.τ Cert.KernelIdeal.sig) → Buf (Elt Ideal) ℓ) : Prop :=
  ∀ c : Dev Cert.KernelIdeal.nD,
    (Cert.Pre_positive_query_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_query_scales [hPre_positive_query_scales : Cert.Pre_positive_query_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_query_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_positive_query_scales [hKernelIdeal : Cert.KernelIdeal.Facts] [hPre_positive_query_scales : Cert.Pre_positive_query_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_query_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_positive_query_scales [hReferenceIdeal : Cert.ReferenceIdeal.Facts] [hPre_positive_query_scales : Cert.Pre_positive_query_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_query_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "exp2_scale" .f32 0x3E0293EE#32 (((Real.sqrt 128)⁻¹ * (Real.log 2)⁻¹ : ℝ) : EReal)

def algebraic_KernelIdeal_ReferenceIdeal_pre_positive_query_scales [hKernelIdeal : Cert.KernelIdeal.Facts] [hReferenceIdeal : Cert.ReferenceIdeal.Facts] [hPre_positive_query_scales : Cert.Pre_positive_query_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_query_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_positive_query_scales : Cert.Pre_positive_query_scales.Facts),
    quiescent_Kernel (hKernel := hKernel)
    ∧ quiescent_KernelIdeal (hKernelIdeal := hKernelIdeal)
    ∧ quiescent_KernelIdeal_pre_positive_query_scales (hKernelIdeal := hKernelIdeal) (hPre_positive_query_scales := hPre_positive_query_scales)
    ∧ quiescent_ReferenceIdeal (hReferenceIdeal := hReferenceIdeal)
    ∧ quiescent_ReferenceIdeal_pre_positive_query_scales (hReferenceIdeal := hReferenceIdeal) (hPre_positive_query_scales := hPre_positive_query_scales)
    ∧ preserves_Kernel_KernelIdeal
    ∧ algebraic_KernelIdeal_ReferenceIdeal_pre_positive_query_scales (hKernelIdeal := hKernelIdeal) (hReferenceIdeal := hReferenceIdeal) (hPre_positive_query_scales := hPre_positive_query_scales)
-- ==== Pre_positive_query_scales.lean ====
abbrev S3x640x5120 : Shape := ⟨3, ![3, 640, 5120]⟩
abbrev S3x640x40 : Shape := ⟨3, ![3, 640, 40]⟩
abbrev S3x640x1024 : Shape := ⟨3, ![3, 640, 1024]⟩
abbrev S3x640x8 : Shape := ⟨3, ![3, 640, 8]⟩
abbrev S_ : Shape := ⟨0, ![]⟩

class Facts : Prop where
  bcast_S_S3x640x40 : S_.BroadcastsInDim S3x640x40 (![] : Fin 0 → Fin S3x640x40.rank)
  reducesTo_S3x640x40_S_d0_1_2 : S3x640x40.ReducesTo [0, 1, 2] S_
  h_S_ : 0 < S_.numel

variable [Facts]

def fn {F : FTy → Type} [FloatOps F] (main_arg0 : FVec F S3x640x5120 .fp8e4m3) (main_arg1 : FVec F S3x640x40 .f32) (main_arg2 : FVec F S3x640x1024 .fp8e4m3) (main_arg3 : FVec F S3x640x8 .f32) (main_arg4 : FVec F S3x640x1024 .fp8e4m3) (main_arg5 : FVec F S3x640x8 .f32) : IVec S_ 1 :=
  let main_cst : FVec F S_ .f32 := constant S_ .f32 0x00000000#32
  let main_v0 : FVec F S3x640x40 .f32 := broadcastInDim S3x640x40 ![] bcast_S_S3x640x40 main_cst
  let main_v1 : IVec S3x640x40 1 := cmpf .ogt main_arg1 main_v0
  let main_cst_0 : FVec F S_ .f32 := constant S_ .f32 0x7F800000#32
  let main_v2 : FVec F S3x640x40 .f32 := broadcastInDim S3x640x40 ![] bcast_S_S3x640x40 main_cst_0
  let main_v3 : IVec S3x640x40 1 := cmpf .olt main_arg1 main_v2
  let main_v4 : IVec S3x640x40 1 := andi main_v1 main_v3
  let main_c : IVec S_ 1 := constantI S_ 1 1#1
  let main_v5 : IVec S_ 1 := (fun x v => Host.reduce IntOp.andi x v reducesTo_S3x640x40_S_d0_1_2 h_S_) main_v4 main_c
  main_v5
-- ==== Kernel.lean ====
abbrev S3x640x5120 : Shape := ⟨3, ![3, 640, 5120]⟩
abbrev S3x640x40 : Shape := ⟨3, ![3, 640, 40]⟩
abbrev S3x640x1024 : Shape := ⟨3, ![3, 640, 1024]⟩
abbrev S3x640x8 : Shape := ⟨3, ![3, 640, 8]⟩
abbrev S3x640x160 : Shape := ⟨3, ![3, 640, 160]⟩
abbrev S1x640x640 : Shape := ⟨3, ![1, 640, 640]⟩
abbrev S1x640x40 : Shape := ⟨3, ![1, 640, 40]⟩
abbrev S1x640x128 : Shape := ⟨3, ![1, 640, 128]⟩
abbrev S1x640x8 : Shape := ⟨3, ![1, 640, 8]⟩
abbrev S1x640x160 : Shape := ⟨3, ![1, 640, 160]⟩
abbrev S4x8x8x640 : Shape := ⟨4, ![4, 8, 8, 640]⟩
abbrev S8x1x640 : Shape := ⟨3, ![8, 1, 640]⟩
abbrev S128x640 : Shape := ⟨2, ![128, 640]⟩
abbrev S5x64x128 : Shape := ⟨3, ![5, 64, 128]⟩
abbrev S8x5x8x640 : Shape := ⟨4, ![8, 5, 8, 640]⟩
abbrev S640x40 : Shape := ⟨2, ![640, 40]⟩
abbrev S40x640 : Shape := ⟨2, ![40, 640]⟩
abbrev S5x128 : Shape := ⟨2, ![5, 128]⟩
abbrev S1x1x5x128 : Shape := ⟨4, ![1, 1, 5, 128]⟩
abbrev S640x8 : Shape := ⟨2, ![640, 8]⟩
abbrev S8x640 : Shape := ⟨2, ![8, 640]⟩
abbrev S1x640 : Shape := ⟨2, ![1, 640]⟩
abbrev S1x1x640 : Shape := ⟨3, ![1, 1, 640]⟩
abbrev S64x128 : Shape := ⟨2, ![64, 128]⟩
abbrev S1x64x128 : Shape := ⟨3, ![1, 64, 128]⟩
abbrev S8x128 : Shape := ⟨2, ![8, 128]⟩
abbrev S640x128 : Shape := ⟨2, ![640, 128]⟩
abbrev S1x32x128 : Shape := ⟨3, ![1, 32, 128]⟩
abbrev S32x128 : Shape := ⟨2, ![32, 128]⟩
abbrev S256x128 : Shape := ⟨2, ![256, 128]⟩
abbrev S64x256 : Shape := ⟨2, ![64, 256]⟩
abbrev S128 : Shape := ⟨1, ![128]⟩
abbrev S1x128 : Shape := ⟨2, ![1, 128]⟩
abbrev S1x1x1x128 : Shape := ⟨4, ![1, 1, 1, 128]⟩
abbrev S128x64 : Shape := ⟨2, ![128, 64]⟩
abbrev S128x256 : Shape := ⟨2, ![128, 256]⟩
abbrev S128x128 : Shape := ⟨2, ![128, 128]⟩
abbrev S1x1x8x128 : Shape := ⟨4, ![1, 1, 8, 128]⟩
abbrev S160x128 : Shape := ⟨2, ![160, 128]⟩
abbrev S160x256 : Shape := ⟨2, ![160, 256]⟩
abbrev S128x160 : Shape := ⟨2, ![128, 160]⟩
abbrev S224x128 : Shape := ⟨2, ![224, 128]⟩
abbrev S224x256 : Shape := ⟨2, ![224, 256]⟩
abbrev S128x224 : Shape := ⟨2, ![128, 224]⟩
abbrev S256x256 : Shape := ⟨2, ![256, 256]⟩
abbrev S320x128 : Shape := ⟨2, ![320, 128]⟩
abbrev S320x256 : Shape := ⟨2, ![320, 256]⟩
abbrev S128x320 : Shape := ⟨2, ![128, 320]⟩
abbrev S384x128 : Shape := ⟨2, ![384, 128]⟩
abbrev S384x256 : Shape := ⟨2, ![384, 256]⟩
abbrev S128x384 : Shape := ⟨2, ![128, 384]⟩
abbrev S416x128 : Shape := ⟨2, ![416, 128]⟩
abbrev S416x256 : Shape := ⟨2, ![416, 256]⟩
abbrev S128x416 : Shape := ⟨2, ![128, 416]⟩
abbrev S480x128 : Shape := ⟨2, ![480, 128]⟩
abbrev S480x256 : Shape := ⟨2, ![480, 256]⟩
abbrev S128x480 : Shape := ⟨2, ![128, 480]⟩
abbrev S512x128 : Shape := ⟨2, ![512, 128]⟩
abbrev S512x256 : Shape := ⟨2, ![512, 256]⟩
abbrev S128x512 : Shape := ⟨2, ![128, 512]⟩
abbrev S576x128 : Shape := ⟨2, ![576, 128]⟩
abbrev S576x256 : Shape := ⟨2, ![576, 256]⟩
abbrev S128x576 : Shape := ⟨2, ![128, 576]⟩
abbrev S640x256 : Shape := ⟨2, ![640, 256]⟩
abbrev S1x1x8x640 : Shape := ⟨4, ![1, 1, 8, 640]⟩
abbrev S4x640 : Shape := ⟨2, ![4, 640]⟩
abbrev S160x640 : Shape := ⟨2, ![160, 640]⟩
abbrev S640x160 : Shape := ⟨2, ![640, 160]⟩

abbrev nBuf : Space → Nat
  | .hbm => 8
  | .vmem => 22
  | .smem => 0
  | _ => 0

abbrev bufTy : (tb : Table) → Fin (tcTables nBuf tb) → BufTy
  | .hbm, ⟨0, _⟩ => ⟨S3x640x5120, .fp8e4m3⟩
  | .hbm, ⟨1, _⟩ => ⟨S3x640x40, .f32⟩
  | .hbm, ⟨2, _⟩ => ⟨S3x640x1024, .fp8e4m3⟩
  | .hbm, ⟨3, _⟩ => ⟨S3x640x8, .f32⟩
  | .hbm, ⟨4, _⟩ => ⟨S3x640x1024, .fp8e4m3⟩
  | .hbm, ⟨5, _⟩ => ⟨S3x640x8, .f32⟩
  | .hbm, ⟨6, _⟩ => ⟨S3x640x5120, .fp8e4m3⟩
  | .hbm, ⟨7, _⟩ => ⟨S3x640x160, .i8⟩
  | .local _ .vmem, ⟨0, _⟩ => ⟨S1x640x640, .fp8e4m3⟩
  | .local _ .vmem, ⟨1, _⟩ => ⟨S1x640x640, .fp8e4m3⟩
  | .local _ .vmem, ⟨2, _⟩ => ⟨S1x640x40, .f32⟩
  | .local _ .vmem, ⟨3, _⟩ => ⟨S1x640x40, .f32⟩
  | .local _ .vmem, ⟨4, _⟩ => ⟨S1x640x128, .fp8e4m3⟩
  | .local _ .vmem, ⟨5, _⟩ => ⟨S1x640x128, .fp8e4m3⟩
  | .local _ .vmem, ⟨6, _⟩ => ⟨S1x640x8, .f32⟩
  | .local _ .vmem, ⟨7, _⟩ => ⟨S1x640x8, .f32⟩
  | .local _ .vmem, ⟨8, _⟩ => ⟨S1x640x128, .fp8e4m3⟩
  | .local _ .vmem, ⟨9, _⟩ => ⟨S1x640x128, .fp8e4m3⟩
  | .local _ .vmem, ⟨10, _⟩ => ⟨S1x640x8, .f32⟩
  | .local _ .vmem, ⟨11, _⟩ => ⟨S1x640x8, .f32⟩
  | .local _ .vmem, ⟨12, _⟩ => ⟨S1x640x640, .fp8e4m3⟩
  | .local _ .vmem, ⟨13, _⟩ => ⟨S1x640x640, .fp8e4m3⟩
  | .local _ .vmem, ⟨14, _⟩ => ⟨S1x640x160, .i8⟩
  | .local _ .vmem, ⟨15, _⟩ => ⟨S1x640x160, .i8⟩
  | .local _ .vmem, ⟨16, _⟩ => ⟨S4x8x8x640, .f32⟩
  | .local _ .vmem, ⟨17, _⟩ => ⟨S8x1x640, .f32⟩
  | .local _ .vmem, ⟨18, _⟩ => ⟨S8x1x640, .f32⟩
  | .local _ .vmem, ⟨19, _⟩ => ⟨S128x640, .bf16⟩
  | .local _ .vmem, ⟨20, _⟩ => ⟨S5x64x128, .f32⟩
  | .local _ .vmem, ⟨21, _⟩ => ⟨S8x5x8x640, .i32⟩
  | _, _ => ⟨S3x640x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![3, 8], ![false, false]⟩

def k0_off1 (i : grid0.Coords) : Fin 3 → Nat :=
  let arg1 : BitVec 32 := BitVec.ofNat 32 (i 1).val
  let v31 : Index := Scalar.indexCast arg1
  let c0_8 : Index := 0#32
  let c0_9 : Index := 0#32
  ![v31.toNat, 0, 0]
def k0_off2 (i : grid0.Coords) : Fin 4 → Nat :=
  let c0_40 : Index := 0#32
  let arg1 : BitVec 32 := BitVec.ofNat 32 (i 1).val
  let v77 : Index := Scalar.indexCast arg1
  let c0_41 : Index := 0#32
  let c0_42 : Index := 0#32
  ![0, v77.toNat, 0, 0]
def k0_off3 (i : grid0.Coords) : Fin 4 → Nat :=
  let c1 : Index := 1#32
  let arg1 : BitVec 32 := BitVec.ofNat 32 (i 1).val
  let v80 : Index := Scalar.indexCast arg1
  let c1_43 : Index := 1#32
  let c0_44 : Index := 0#32
  ![1, v80.toNat, 1, 0]
def k0_off4 (i : grid0.Coords) : Fin 4 → Nat :=
  let c2 : Index := 2#32
  let arg1 : BitVec 32 := BitVec.ofNat 32 (i 1).val
  let v87 : Index := Scalar.indexCast arg1
  let c2_46 : Index := 2#32
  let c0_47 : Index := 0#32
  ![2, v87.toNat, 2, 0]
def k0_off5 (i : grid0.Coords) : Fin 4 → Nat :=
  let c3 : Index := 3#32
  let arg1 : BitVec 32 := BitVec.ofNat 32 (i 1).val
  let v94 : Index := Scalar.indexCast arg1
  let c3_48 : Index := 3#32
  let c0_49 : Index := 0#32
  ![3, v94.toNat, 3, 0]
def k0_off6 (i : grid0.Coords) : Fin 4 → Nat :=
  let c0_60 : Index := 0#32
  let arg1 : BitVec 32 := BitVec.ofNat 32 (i 1).val
  let v130 : Index := Scalar.indexCast arg1
  let c4 : Index := 4#32
  let c0_61 : Index := 0#32
  ![0, v130.toNat, 4, 0]
def k0_off7 (i : grid0.Coords) : Fin 4 → Nat :=
  let arg1 : BitVec 32 := BitVec.ofNat 32 (i 1).val
  let v691 : Index := Scalar.indexCast arg1
  let c0_215 : Index := 0#32
  let c0_216 : Index := 0#32
  let c0_217 : Index := 0#32
  ![v691.toNat, 0, 0, 0]
def k0_off8 (i : grid0.Coords) : Fin 4 → Nat :=
  let arg1 : BitVec 32 := BitVec.ofNat 32 (i 1).val
  let v702 : Index := Scalar.indexCast arg1
  let c1_222 : Index := 1#32
  let c0_223 : Index := 0#32
  let c0_224 : Index := 0#32
  ![v702.toNat, 1, 0, 0]
def k0_off9 (i : grid0.Coords) : Fin 4 → Nat :=
  let arg1 : BitVec 32 := BitVec.ofNat 32 (i 1).val
  let v713 : Index := Scalar.indexCast arg1
  let c2_229 : Index := 2#32
  let c0_230 : Index := 0#32
  let c0_231 : Index := 0#32
  ![v713.toNat, 2, 0, 0]
def k0_off10 (i : grid0.Coords) : Fin 4 → Nat :=
  let arg1 : BitVec 32 := BitVec.ofNat 32 (i 1).val
  let v724 : Index := Scalar.indexCast arg1
  let c3_236 : Index := 3#32
  let c0_237 : Index := 0#32
  let c0_238 : Index := 0#32
  ![v724.toNat, 3, 0, 0]
def k0_off11 (i : grid0.Coords) : Fin 4 → Nat :=
  let arg1 : BitVec 32 := BitVec.ofNat 32 (i 1).val
  let v770 : Index := Scalar.indexCast arg1
  let c4_251 : Index := 4#32
  let c0_252 : Index := 0#32
  let c0_253 : Index := 0#32
  ![v770.toNat, 4, 0, 0]
def k0_off12 (i : grid0.Coords) : Fin 4 → Nat :=
  let c0_606 : Index := 0#32
  let arg1 : BitVec 32 := BitVec.ofNat 32 (i 1).val
  let v1749 : Index := Scalar.indexCast arg1
  let c0_607 : Index := 0#32
  let c128_608 : Index := 128#32
  ![0, v1749.toNat, 0, 128]
def k0_off13 (i : grid0.Coords) : Fin 4 → Nat :=
  let c1_609 : Index := 1#32
  let arg1 : BitVec 32 := BitVec.ofNat 32 (i 1).val
  let v1752 : Index := Scalar.indexCast arg1
  let c1_610 : Index := 1#32
  let c128_611 : Index := 128#32
  ![1, v1752.toNat, 1, 128]
def k0_off14 (i : grid0.Coords) : Fin 4 → Nat :=
  let c2_613 : Index := 2#32
  let arg1 : BitVec 32 := BitVec.ofNat 32 (i 1).val
  let v1759 : Index := Scalar.indexCast arg1
  let c2_614 : Index := 2#32
  let c128_615 : Index := 128#32
  ![2, v1759.toNat, 2, 128]
def k0_off15 (i : grid0.Coords) : Fin 4 → Nat :=
  let c3_617 : Index := 3#32
  let arg1 : BitVec 32 := BitVec.ofNat 32 (i 1).val
  let v1766 : Index := Scalar.indexCast arg1
  let c3_618 : Index := 3#32
  let c128_619 : Index := 128#32
  ![3, v1766.toNat, 3, 128]
def k0_off16 (i : grid0.Coords) : Fin 4 → Nat :=
  let arg1 : BitVec 32 := BitVec.ofNat 32 (i 1).val
  let v2416 : Index := Scalar.indexCast arg1
  let c0_807 : Index := 0#32
  let c0_808 : Index := 0#32
  let c128_809 : Index := 128#32
  ![v2416.toNat, 0, 0, 128]
def k0_off17 (i : grid0.Coords) : Fin 4 → Nat :=
  let arg1 : BitVec 32 := BitVec.ofNat 32 (i 1).val
  let v2427 : Index := Scalar.indexCast arg1
  let c1_814 : Index := 1#32
  let c0_815 : Index := 0#32
  let c128_816 : Index := 128#32
  ![v2427.toNat, 1, 0, 128]
def k0_off18 (i : grid0.Coords) : Fin 4 → Nat :=
  let arg1 : BitVec 32 := BitVec.ofNat 32 (i 1).val
  let v2438 : Index := Scalar.indexCast arg1
  let c2_821 : Index := 2#32
  let c0_822 : Index := 0#32
  let c128_823 : Index := 128#32
  ![v2438.toNat, 2, 0, 128]
def k0_off19 (i : grid0.Coords) : Fin 4 → Nat :=
  let arg1 : BitVec 32 := BitVec.ofNat 32 (i 1).val
  let v2449 : Index := Scalar.indexCast arg1
  let c3_828 : Index := 3#32
  let c0_829 : Index := 0#32
  let c128_830 : Index := 128#32
  ![v2449.toNat, 3, 0, 128]
def k0_off20 (i : grid0.Coords) : Fin 4 → Nat :=
  let c0_861 : Index := 0#32
  let arg1 : BitVec 32 := BitVec.ofNat 32 (i 1).val
  let v2504 : Index := Scalar.indexCast arg1
  let c4_862 : Index := 4#32
  let c128_863 : Index := 128#32
  ![0, v2504.toNat, 4, 128]
def k0_off21 (i : grid0.Coords) : Fin 4 → Nat :=
  let arg1 : BitVec 32 := BitVec.ofNat 32 (i 1).val
  let v3228 : Index := Scalar.indexCast arg1
  let c4_1051 : Index := 4#32
  let c0_1052 : Index := 0#32
  let c128_1053 : Index := 128#32
  ![v3228.toNat, 4, 0, 128]
def k0_off22 (i : grid0.Coords) : Fin 4 → Nat :=
  let c0_1416 : Index := 0#32
  let arg1 : BitVec 32 := BitVec.ofNat 32 (i 1).val
  let v4330 : Index := Scalar.indexCast arg1
  let c0_1417 : Index := 0#32
  let c256_1418 : Index := 256#32
  ![0, v4330.toNat, 0, 256]
def k0_off23 (i : grid0.Coords) : Fin 4 → Nat :=
  let c1_1419 : Index := 1#32
  let arg1 : BitVec 32 := BitVec.ofNat 32 (i 1).val
  let v4333 : Index := Scalar.indexCast arg1
  let c1_1420 : Index := 1#32
  let c256_1421 : Index := 256#32
  ![1, v4333.toNat, 1, 256]
def k0_off24 (i : grid0.Coords) : Fin 4 → Nat :=
  let c2_1423 : Index := 2#32
  let arg1 : BitVec 32 := BitVec.ofNat 32 (i 1).val
  let v4340 : Index := Scalar.indexCast arg1
  let c2_1424 : Index := 2#32
  let c256_1425 : Index := 256#32
  ![2, v4340.toNat, 2, 256]
def k0_off25 (i : grid0.Coords) : Fin 4 → Nat :=
  let c3_1427 : Index := 3#32
  let arg1 : BitVec 32 := BitVec.ofNat 32 (i 1).val
  let v4347 : Index := Scalar.indexCast arg1
  let c3_1428 : Index := 3#32
  let c256_1429 : Index := 256#32
  ![3, v4347.toNat, 3, 256]
def k0_off26 (i : grid0.Coords) : Fin 4 → Nat :=
  let c0_1441 : Index := 0#32
  let arg1 : BitVec 32 := BitVec.ofNat 32 (i 1).val
  let v4487 : Index := Scalar.indexCast arg1
  let c4_1442 : Index := 4#32
  let c256_1443 : Index := 256#32
  ![0, v4487.toNat, 4, 256]
def k0_off27 (i : grid0.Coords) : Fin 4 → Nat :=
  let arg1 : BitVec 32 := BitVec.ofNat 32 (i 1).val
  let v5120 : Index := Scalar.indexCast arg1
  let c0_1606 : Index := 0#32
  let c0_1607 : Index := 0#32
  let c256_1608 : Index := 256#32
  ![v5120.toNat, 0, 0, 256]
def k0_off28 (i : grid0.Coords) : Fin 4 → Nat :=
  let arg1 : BitVec 32 := BitVec.ofNat 32 (i 1).val
  let v5131 : Index := Scalar.indexCast arg1
  let c1_1613 : Index := 1#32
  let c0_1614 : Index := 0#32
  let c256_1615 : Index := 256#32
  ![v5131.toNat, 1, 0, 256]
def k0_off29 (i : grid0.Coords) : Fin 4 → Nat :=
  let arg1 : BitVec 32 := BitVec.ofNat 32 (i 1).val
  let v5142 : Index := Scalar.indexCast arg1
  let c2_1620 : Index := 2#32
  let c0_1621 : Index := 0#32
  let c256_1622 : Index := 256#32
  ![v5142.toNat, 2, 0, 256]
def k0_off30 (i : grid0.Coords) : Fin 4 → Nat :=
  let arg1 : BitVec 32 := BitVec.ofNat 32 (i 1).val
  let v5153 : Index := Scalar.indexCast arg1
  let c3_1627 : Index := 3#32
  let c0_1628 : Index := 0#32
  let c256_1629 : Index := 256#32
  ![v5153.toNat, 3, 0, 256]
def k0_off31 (i : grid0.Coords) : Fin 4 → Nat :=
  let arg1 : BitVec 32 := BitVec.ofNat 32 (i 1).val
  let v5199 : Index := Scalar.indexCast arg1
  let c4_1642 : Index := 4#32
  let c0_1643 : Index := 0#32
  let c256_1644 : Index := 256#32
  ![v5199.toNat, 4, 0, 256]
def k0_off32 (i : grid0.Coords) : Fin 4 → Nat :=
  let c0_1997 : Index := 0#32
  let arg1 : BitVec 32 := BitVec.ofNat 32 (i 1).val
  let v6522 : Index := Scalar.indexCast arg1
  let c0_1998 : Index := 0#32
  let c384_1999 : Index := 384#32
  ![0, v6522.toNat, 0, 384]
def k0_off33 (i : grid0.Coords) : Fin 4 → Nat :=
  let c1_2000 : Index := 1#32
  let arg1 : BitVec 32 := BitVec.ofNat 32 (i 1).val
  let v6525 : Index := Scalar.indexCast arg1
  let c1_2001 : Index := 1#32
  let c384_2002 : Index := 384#32
  ![1, v6525.toNat, 1, 384]
def k0_off34 (i : grid0.Coords) : Fin 4 → Nat :=
  let c2_2004 : Index := 2#32
  let arg1 : BitVec 32 := BitVec.ofNat 32 (i 1).val
  let v6532 : Index := Scalar.indexCast arg1
  let c2_2005 : Index := 2#32
  let c384_2006 : Index := 384#32
  ![2, v6532.toNat, 2, 384]
def k0_off35 (i : grid0.Coords) : Fin 4 → Nat :=
  let c3_2008 : Index := 3#32
  let arg1 : BitVec 32 := BitVec.ofNat 32 (i 1).val
  let v6539 : Index := Scalar.indexCast arg1
  let c3_2009 : Index := 3#32
  let c384_2010 : Index := 384#32
  ![3, v6539.toNat, 3, 384]
def k0_off36 (i : grid0.Coords) : Fin 4 → Nat :=
  let arg1 : BitVec 32 := BitVec.ofNat 32 (i 1).val
  let v7261 : Index := Scalar.indexCast arg1
  let c0_2198 : Index := 0#32
  let c0_2199 : Index := 0#32
  let c384_2200 : Index := 384#32
  ![v7261.toNat, 0, 0, 384]
def k0_off37 (i : grid0.Coords) : Fin 4 → Nat :=
  let arg1 : BitVec 32 := BitVec.ofNat 32 (i 1).val
  let v7272 : Index := Scalar.indexCast arg1
  let c1_2205 : Index := 1#32
  let c0_2206 : Index := 0#32
  let c384_2207 : Index := 384#32
  ![v7272.toNat, 1, 0, 384]
def k0_off38 (i : grid0.Coords) : Fin 4 → Nat :=
  let arg1 : BitVec 32 := BitVec.ofNat 32 (i 1).val
  let v7283 : Index := Scalar.indexCast arg1
  let c2_2212 : Index := 2#32
  let c0_2213 : Index := 0#32
  let c384_2214 : Index := 384#32
  ![v7283.toNat, 2, 0, 384]
def k0_off39 (i : grid0.Coords) : Fin 4 → Nat :=
  let arg1 : BitVec 32 := BitVec.ofNat 32 (i 1).val
  let v7294 : Index := Scalar.indexCast arg1
  let c3_2219 : Index := 3#32
  let c0_2220 : Index := 0#32
  let c384_2221 : Index := 384#32
  ![v7294.toNat, 3, 0, 384]
def k0_off40 (i : grid0.Coords) : Fin 4 → Nat :=
  let c0_2252 : Index := 0#32
  let arg1 : BitVec 32 := BitVec.ofNat 32 (i 1).val
  let v7381 : Index := Scalar.indexCast arg1
  let c4_2253 : Index := 4#32
  let c384_2254 : Index := 384#32
  ![0, v7381.toNat, 4, 384]
def k0_off41 (i : grid0.Coords) : Fin 4 → Nat :=
  let arg1 : BitVec 32 := BitVec.ofNat 32 (i 1).val
  let v8281 : Index := Scalar.indexCast arg1
  let c4_2442 : Index := 4#32
  let c0_2443 : Index := 0#32
  let c384_2444 : Index := 384#32
  ![v8281.toNat, 4, 0, 384]
def k0_off42 (i : grid0.Coords) : Fin 4 → Nat :=
  let c0_2807 : Index := 0#32
  let arg1 : BitVec 32 := BitVec.ofNat 32 (i 1).val
  let v9623 : Index := Scalar.indexCast arg1
  let c0_2808 : Index := 0#32
  let c512_2809 : Index := 512#32
  ![0, v9623.toNat, 0, 512]
def k0_off43 (i : grid0.Coords) : Fin 4 → Nat :=
  let c1_2810 : Index := 1#32
  let arg1 : BitVec 32 := BitVec.ofNat 32 (i 1).val
  let v9626 : Index := Scalar.indexCast arg1
  let c1_2811 : Index := 1#32
  let c512_2812 : Index := 512#32
  ![1, v9626.toNat, 1, 512]
def k0_off44 (i : grid0.Coords) : Fin 4 → Nat :=
  let c2_2814 : Index := 2#32
  let arg1 : BitVec 32 := BitVec.ofNat 32 (i 1).val
  let v9633 : Index := Scalar.indexCast arg1
  let c2_2815 : Index := 2#32
  let c512_2816 : Index := 512#32
  ![2, v9633.toNat, 2, 512]
def k0_off45 (i : grid0.Coords) : Fin 4 → Nat :=
  let c3_2818 : Index := 3#32
  let arg1 : BitVec 32 := BitVec.ofNat 32 (i 1).val
  let v9640 : Index := Scalar.indexCast arg1
  let c3_2819 : Index := 3#32
  let c512_2820 : Index := 512#32
  ![3, v9640.toNat, 3, 512]
def k0_off46 (i : grid0.Coords) : Fin 4 → Nat :=
  let c0_2832 : Index := 0#32
  let arg1 : BitVec 32 := BitVec.ofNat 32 (i 1).val
  let v9884 : Index := Scalar.indexCast arg1
  let c4_2833 : Index := 4#32
  let c512_2834 : Index := 512#32
  ![0, v9884.toNat, 4, 512]
def k0_off47 (i : grid0.Coords) : Fin 4 → Nat :=
  let arg1 : BitVec 32 := BitVec.ofNat 32 (i 1).val
  let v10589 : Index := Scalar.indexCast arg1
  let c0_2997 : Index := 0#32
  let c0_2998 : Index := 0#32
  let c512_2999 : Index := 512#32
  ![v10589.toNat, 0, 0, 512]
def k0_off48 (i : grid0.Coords) : Fin 4 → Nat :=
  let arg1 : BitVec 32 := BitVec.ofNat 32 (i 1).val
  let v10600 : Index := Scalar.indexCast arg1
  let c1_3004 : Index := 1#32
  let c0_3005 : Index := 0#32
  let c512_3006 : Index := 512#32
  ![v10600.toNat, 1, 0, 512]
def k0_off49 (i : grid0.Coords) : Fin 4 → Nat :=
  let arg1 : BitVec 32 := BitVec.ofNat 32 (i 1).val
  let v10611 : Index := Scalar.indexCast arg1
  let c2_3011 : Index := 2#32
  let c0_3012 : Index := 0#32
  let c512_3013 : Index := 512#32
  ![v10611.toNat, 2, 0, 512]
def k0_off50 (i : grid0.Coords) : Fin 4 → Nat :=
  let arg1 : BitVec 32 := BitVec.ofNat 32 (i 1).val
  let v10622 : Index := Scalar.indexCast arg1
  let c3_3018 : Index := 3#32
  let c0_3019 : Index := 0#32
  let c512_3020 : Index := 512#32
  ![v10622.toNat, 3, 0, 512]
def k0_off51 (i : grid0.Coords) : Fin 4 → Nat :=
  let arg1 : BitVec 32 := BitVec.ofNat 32 (i 1).val
  let v10668 : Index := Scalar.indexCast arg1
  let c4_3033 : Index := 4#32
  let c0_3034 : Index := 0#32
  let c512_3035 : Index := 512#32
  ![v10668.toNat, 4, 0, 512]
def k0_cond2 (i : grid0.Coords) : BitVec 1 :=
  let arg1 : BitVec 32 := BitVec.ofNat 32 (i 1).val
  let c7_i32 : BitVec 32 := 7#32
  let v12788 : BitVec 1 := Scalar.cmpi .eq arg1 c7_i32
  let v12789 : BitVec 32 := Scalar.extui v12788
  let c0_i32_3543 : BitVec 32 := 0#32
  let v12790 : BitVec 1 := Scalar.cmpi .ne v12789 c0_i32_3543
  v12790

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x640x640 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x640x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x640x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x640x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x640x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x640x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x640x640 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x640x160 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "exp2_scale" => some (((Real.sqrt 128)⁻¹ * (Real.log 2)⁻¹ : ℝ) : EReal)
  | _ => none
-- ==== ReferenceIdeal.lean ====
abbrev S3x640x5120 : Shape := ⟨3, ![3, 640, 5120]⟩
abbrev S3x640x40 : Shape := ⟨3, ![3, 640, 40]⟩
abbrev S3x640x1024 : Shape := ⟨3, ![3, 640, 1024]⟩
abbrev S3x640x8 : Shape := ⟨3, ![3, 640, 8]⟩
abbrev S3x640x160 : Shape := ⟨3, ![3, 640, 160]⟩
abbrev S3x640x8x5x128 : Shape := ⟨5, ![3, 640, 8, 5, 128]⟩
abbrev S3x640x8x128 : Shape := ⟨4, ![3, 640, 8, 128]⟩
abbrev S3x640x8x5 : Shape := ⟨4, ![3, 640, 8, 5]⟩
abbrev S3x8x640x5 : Shape := ⟨4, ![3, 8, 640, 5]⟩
abbrev S3x8x640x5x1 : Shape := ⟨5, ![3, 8, 640, 5, 1]⟩
abbrev S3x8x640 : Shape := ⟨3, ![3, 8, 640]⟩
abbrev S3x8x1x1x640 : Shape := ⟨5, ![3, 8, 1, 1, 640]⟩
abbrev S3x8x640x5x640 : Shape := ⟨5, ![3, 8, 640, 5, 640]⟩
abbrev S3x8x640x5x128 : Shape := ⟨5, ![3, 8, 640, 5, 128]⟩
abbrev S3x640x160x32 : Shape := ⟨4, ![3, 640, 160, 32]⟩
abbrev S3x640x160x1 : Shape := ⟨4, ![3, 640, 160, 1]⟩

abbrev nBuf : Space → Nat
  | .hbm => 8
  | .vmem => 8
  | .smem => 0
  | _ => 0

abbrev bufTy : (tb : Table) → Fin (tcTables nBuf tb) → BufTy
  | .hbm, ⟨0, _⟩ => ⟨S3x640x5120, .fp8e4m3⟩
  | .hbm, ⟨1, _⟩ => ⟨S3x640x40, .f32⟩
  | .hbm, ⟨2, _⟩ => ⟨S3x640x1024, .fp8e4m3⟩
  | .hbm, ⟨3, _⟩ => ⟨S3x640x8, .f32⟩
  | .hbm, ⟨4, _⟩ => ⟨S3x640x1024, .fp8e4m3⟩
  | .hbm, ⟨5, _⟩ => ⟨S3x640x8, .f32⟩
  | .hbm, ⟨6, _⟩ => ⟨S3x640x5120, .fp8e4m3⟩
  | .hbm, ⟨7, _⟩ => ⟨S3x640x160, .i8⟩
  | .local _ .vmem, ⟨0, _⟩ => ⟨S3x640x5120, .fp8e4m3⟩
  | .local _ .vmem, ⟨1, _⟩ => ⟨S3x640x40, .f32⟩
  | .local _ .vmem, ⟨2, _⟩ => ⟨S3x640x1024, .fp8e4m3⟩
  | .local _ .vmem, ⟨3, _⟩ => ⟨S3x640x8, .f32⟩
  | .local _ .vmem, ⟨4, _⟩ => ⟨S3x640x1024, .fp8e4m3⟩
  | .local _ .vmem, ⟨5, _⟩ => ⟨S3x640x8, .f32⟩
  | .local _ .vmem, ⟨6, _⟩ => ⟨S3x640x5120, .fp8e4m3⟩
  | .local _ .vmem, ⟨7, _⟩ => ⟨S3x640x160, .i8⟩
  | _, _ => ⟨S3x640x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "log_2" => some ((Real.log 2 : ℝ) : EReal)
  | "score_scale" => some (((Real.sqrt 128)⁻¹ : ℝ) : EReal)
  | _ => none

abbrev grid0 : Pipeline.Grid := .none

abbrev stage0_0 : Fin 1 → Memref sig .tc .vmem S3x640x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x640x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x640x160 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelBody.lean ====
/-
  The kernel body, run once at symbolic operands: the grid point, the fourteen buffers and their contents are variables.
  `bodyRun` finds what the body leaves in each buffer that it writes, and proves that the run ends there.
-/
module

public import proofs.«01_k».proof.Proof.Gen.Kernel.Skeleton
public import proofs.«01_k».proof.Proof.Gen.Kernel.Frame
public import Idealize.ShloMosaic.Lib.Tactic

@[expose] public section

set_option maxRecDepth 16384

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The type of the contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- From the fourteen buffers held whole, at contents `f2` to `f15`, the body at grid point `i` runs to its end and hands
    back the six inputs as they were, and the two outputs and the six scratch buffers at the contents `W`. -/
def BodySpec (c : Dev nD) (i : grid0.Coords)
    (M2 : Memref sig .tc .vmem S1x640x640 .fp8e4m3) (h2 : M2.IsWhole)
    (M3 : Memref sig .tc .vmem S1x640x40 .f32) (h3 : M3.IsWhole)
    (M4 : Memref sig .tc .vmem S1x640x128 .fp8e4m3) (h4 : M4.IsWhole)
    (M5 : Memref sig .tc .vmem S1x640x8 .f32) (h5 : M5.IsWhole)
    (M6 : Memref sig .tc .vmem S1x640x128 .fp8e4m3) (h6 : M6.IsWhole)
    (M7 : Memref sig .tc .vmem S1x640x8 .f32) (h7 : M7.IsWhole)
    (M8 : Memref sig .tc .vmem S1x640x640 .fp8e4m3) (h8 : M8.IsWhole)
    (M9 : Memref sig .tc .vmem S1x640x160 .i8) (h9 : M9.IsWhole)
    (M10 : Memref sig .tc .vmem S4x8x8x640 .f32) (h10 : M10.IsWhole)
    (M11 : Memref sig .tc .vmem S8x1x640 .f32) (h11 : M11.IsWhole)
    (M12 : Memref sig .tc .vmem S8x1x640 .f32) (h12 : M12.IsWhole)
    (M13 : Memref sig .tc .vmem S128x640 .bf16) (h13 : M13.IsWhole)
    (M14 : Memref sig .tc .vmem S5x64x128 .f32) (h14 : M14.IsWhole)
    (M15 : Memref sig .tc .vmem S8x5x8x640 .i32) (h15 : M15.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (W : Bf (F := F) c M8 × Bf (F := F) c M9 × Bf (F := F) c M10 × Bf (F := F) c M11 × Bf (F := F) c M12 × Bf (F := F) c M13 × Bf (F := F) c M14 × Bf (F := F) c M15) : Prop :=
    ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
          ∗ (iprop(pt c M2 f2 ∗ pt c M3 f3 ∗ pt c M4 f4 ∗ pt c M5 f5 ∗ pt c M6 f6 ∗ pt c M7 f7 ∗ pt c M8 W.1 ∗ pt c M9 W.2.1 ∗ pt c M10 W.2.2.1 ∗ pt c M11 W.2.2.2.1 ∗ pt c M12 W.2.2.2.2.1 ∗ pt c M13 W.2.2.2.2.2.1 ∗ pt c M14 W.2.2.2.2.2.2.1 ∗ pt c M15 W.2.2.2.2.2.2.2) -∗ Q ⟨⟩))
        ⊢ wp frame (wpE (defs₀ (F := F)) Variants.none c none) E
            (cc0__body i M2 h2 M3 h3 M4 h4 M5 h5 M6 h6 M7 h7 M8 h8 M9 h9 M10 h10 M11 h11 M12 h12 M13 h13 M14 h14 M15 h15) Q

/-- What the body leaves in the two outputs and the six scratch buffers, as functions of what the buffers hold before it,
    with the proof that it does (`BodySpec`). -/
noncomputable def bodyRun (c : Dev nD) (i : grid0.Coords)
    (M2 : Memref sig .tc .vmem S1x640x640 .fp8e4m3) (h2 : M2.IsWhole)
    (M3 : Memref sig .tc .vmem S1x640x40 .f32) (h3 : M3.IsWhole)
    (M4 : Memref sig .tc .vmem S1x640x128 .fp8e4m3) (h4 : M4.IsWhole)
    (M5 : Memref sig .tc .vmem S1x640x8 .f32) (h5 : M5.IsWhole)
    (M6 : Memref sig .tc .vmem S1x640x128 .fp8e4m3) (h6 : M6.IsWhole)
    (M7 : Memref sig .tc .vmem S1x640x8 .f32) (h7 : M7.IsWhole)
    (M8 : Memref sig .tc .vmem S1x640x640 .fp8e4m3) (h8 : M8.IsWhole)
    (M9 : Memref sig .tc .vmem S1x640x160 .i8) (h9 : M9.IsWhole)
    (M10 : Memref sig .tc .vmem S4x8x8x640 .f32) (h10 : M10.IsWhole)
    (M11 : Memref sig .tc .vmem S8x1x640 .f32) (h11 : M11.IsWhole)
    (M12 : Memref sig .tc .vmem S8x1x640 .f32) (h12 : M12.IsWhole)
    (M13 : Memref sig .tc .vmem S128x640 .bf16) (h13 : M13.IsWhole)
    (M14 : Memref sig .tc .vmem S5x64x128 .f32) (h14 : M14.IsWhole)
    (M15 : Memref sig .tc .vmem S8x5x8x640 .i32) (h15 : M15.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) :
    { W : Bf (F := F) c M8 × Bf (F := F) c M9 × Bf (F := F) c M10 × Bf (F := F) c M11 × Bf (F := F) c M12 × Bf (F := F) c M13 × Bf (F := F) c M14 × Bf (F := F) c M15 // BodySpec c i M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15 W } := by
  refine ⟨⟨?_, ?_, ?_, ?_, ?_, ?_, ?_, ?_⟩, ?run⟩
  case run =>
    unfold BodySpec
    intro E Q
    iintro ⟨H2, H3, H4, H5, H6, H7, H8, H9, H10, H11, H12, H13, H14, H15, Hk⟩
    unfold cc0__body
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Kernel.Body

end
-- ==== Proof.KernelFrame.lean ====
/-
  The frame of the kernel: it runs to its end without a fault and leaves its six arguments as they were. The proof data
  state only that the body leaves each input's staging buffer as it found it; what it leaves in the outputs is not named.
-/
module

public import proofs.«01_k».proof.Proof.KernelBody

@[expose] public section

set_option maxRecDepth 16384

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

omit [FloatOps F] in
/-- A whole memref owned at `X` is its buffer held whole, at contents read through it as `X`. -/
theorem owns_whole (c : Dev nD) {sp : Space} {S : Shape} {e : EltTy} (M : Memref sig .tc sp S e) (h : M.IsWhole) (X : S.Idx → Elt F e) :
    (owns c.tc M fullShare X : sProp 𝕄) = iprop(∃ f, ⌜M.view.read (Elt F) f = X⌝ ∗ pt c M f) := by
  unfold owns; rw [h.set_eq_univ]

/-- The proof data of the frame: the arrays at their launch contents, each input's staging buffer left as found, nothing
    said of the outputs, the scratch buffers held at some contents. -/
def fdat (c : Dev nD) : RDat τ (Elt F) Unit ℕ (UR sig nD τ) ℕ cfg0 c where
  A w := V m c (Pipeline.arrRef spec0 w)
  after w _ Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => True
    | ⟨7, _⟩ => True
  Φ _ := Pipeline.ΦA spec0 c
  q _ := fullShare
  owed _ := 0

set_option maxHeartbeats 4000000 in
/-- The body at any grid point, from any contents of its buffers. -/
theorem fbody (c : Dev nD) : (fdat m c).BodyObligation (defs₀ (F := F)) Variants.none () Set.univ := fun t Y _ => by
  rw [bigSep_W0, bigSep_W0]
  unfold defs₀; rw [Defs.onTc_tc]
  rw [show (fdat m c).Φ t.castSucc = Pipeline.ΦA spec0 c from rfl, show (fdat m c).Φ t.succ = Pipeline.ΦA spec0 c from rfl,
    show (fdat m c).owesAt () t.succ = (fdat m c).owesAt () t.castSucc from rfl]
  unfold Pipeline.ΦA; rw [scopedRest0_eq]
  simp only [owns_whole_eq, owns_whole c _ (hstage0_0 _), owns_whole c _ (hstage0_1 _), owns_whole c _ (hstage0_2 _), owns_whole c _ (hstage0_3 _), owns_whole c _ (hstage0_4 _), owns_whole c _ (hstage0_5 _), owns_whole c _ (hstage0_6 _), owns_whole c _ (hstage0_7 _)]
  iintro ⟨⟨⟨⟨%f8, H8⟩, ⟨%f9, H9⟩, ⟨%f10, H10⟩, ⟨%f11, H11⟩, ⟨%f12, H12⟩, ⟨%f13, H13⟩⟩, Hg⟩, Howes,
    ⟨%f0, %hf0, H0⟩, ⟨%f1, %hf1, H1⟩, ⟨%f2, %hf2, H2⟩, ⟨%f3, %hf3, H3⟩,
    ⟨%f4, %hf4, H4⟩, ⟨%f5, %hf5, H5⟩, ⟨%f6, %hf6, H6⟩, ⟨%f7, %hf7, H7⟩⟩
  iapply ((bodyRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f0 f1 f2 f3 f4 f5 f6 f7 f8 f9 f10 f11 f12 f13).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H0, H1, H2, H3, H4, H5, H6, H7, H8, H9, H10, H11, H12, H13⟩
  isplitl [H8 H9 H10 H11 H12 H13 Hg]
  · isplitr [Hg]
    · isplitl [H8]; · iexists _; iexact H8
      isplitl [H9]; · iexists _; iexact H9
      isplitl [H10]; · iexists _; iexact H10
      isplitl [H11]; · iexists _; iexact H11
      isplitl [H12]; · iexists _; iexact H12
      iexists _; iexact H13
    · iexact Hg
  isplitl [Howes]; · iexact Howes
  isplitl [H0]; · iexists _; isplitr; swap; (· iexists _; isplitr; swap; (· iexact H0); ipureintro; exact hf0); ipureintro; exact rfl
  isplitl [H1]; · iexists _; isplitr; swap; (· iexists _; isplitr; swap; (· iexact H1); ipureintro; exact hf1); ipureintro; exact rfl
  isplitl [H2]; · iexists _; isplitr; swap; (· iexists _; isplitr; swap; (· iexact H2); ipureintro; exact hf2); ipureintro; exact rfl
  isplitl [H3]; · iexists _; isplitr; swap; (· iexists _; isplitr; swap; (· iexact H3); ipureintro; exact hf3); ipureintro; exact rfl
  isplitl [H4]; · iexists _; isplitr; swap; (· iexists _; isplitr; swap; (· iexact H4); ipureintro; exact hf4); ipureintro; exact rfl
  isplitl [H5]; · iexists _; isplitr; swap; (· iexists _; isplitr; swap; (· iexact H5); ipureintro; exact hf5); ipureintro; exact rfl
  isplitl [H6]; · iexists _; isplitr; swap; (· iexists _; isplitr; swap; (· iexact H6); ipureintro; exact rfl); ipureintro; exact trivial
  iexists _; isplitr; swap; (· iexists _; isplitr; swap; (· iexact H7); ipureintro; exact rfl); ipureintro; exact trivial

/-- What the claim says of a run: the six argument arrays hold what they held, and every semaphore is at rest. -/
def FramePostQ (r : PUnit × MemSt nD τ sig (Elt F)) : Prop :=
  (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0

set_option backward.isDefEq.respectTransparency.types false in
/-- The kernel from any launch contents: every run terminates without a fault, leaves the six argument arrays as they
    were, and leaves every semaphore at rest. -/
theorem frame_quiescent : θ_run defs (onTc (τ := τ) (main (F := F))) ⟨m, fun _ => 0, ρ⟩ (FramePostQ m) :=
  Pipeline.RDat.θ_run_frame cfgs 0 launch0 (defs₀ (F := F)) Variants.none (fdat m) m ρ main
    (hbody := fun c => fbody m c) (hshare := fun c => (fdat m c).share_full fun _ => rfl) (howed := fun _ _ => rfl)
    (V := V m) (hmain := hmain m Variants.none) (hA := fun _ _ => rfl) (hΦ := fun _ _ => rfl)
    (Q' := FramePostQ m)
    (hQ' := fun r h => ⟨fun c => ⟨(h.1.arr_in c 0 rfl).trans (V_main_arg0 m c),
      (h.1.arr_in c 1 rfl).trans (V_main_arg1 m c),
      (h.1.arr_in c 2 rfl).trans (V_main_arg2 m c),
      (h.1.arr_in c 3 rfl).trans (V_main_arg3 m c),
      (h.1.arr_in c 4 rfl).trans (V_main_arg4 m c),
      (h.1.arr_in c 5 rfl).trans (V_main_arg5 m c)⟩, h.2⟩)

end Cert.Kernel.Body

end
-- ==== Proof.KernelIdealBody.lean ====
/-
  The kernel body, run once at symbolic operands: the grid point, the fourteen buffers and their contents are variables.
  `bodyRun` finds what the body leaves in each buffer that it writes, and proves that the run ends there.
-/
module

public import proofs.«01_k».proof.Proof.Gen.KernelIdeal.Skeleton
public import proofs.«01_k».proof.Proof.Gen.KernelIdeal.Frame
public import Idealize.ShloMosaic.Lib.Tactic

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The type of the contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- From the fourteen buffers held whole, at contents `f2` to `f15`, the body at grid point `i` runs to its end and hands
    back the six inputs as they were, and the two outputs and the six scratch buffers at the contents `W`. -/
def BodySpec (c : Dev nD) (i : grid0.Coords)
    (M2 : Memref sig .tc .vmem S1x640x640 .fp8e4m3) (h2 : M2.IsWhole)
    (M3 : Memref sig .tc .vmem S1x640x40 .f32) (h3 : M3.IsWhole)
    (M4 : Memref sig .tc .vmem S1x640x128 .fp8e4m3) (h4 : M4.IsWhole)
    (M5 : Memref sig .tc .vmem S1x640x8 .f32) (h5 : M5.IsWhole)
    (M6 : Memref sig .tc .vmem S1x640x128 .fp8e4m3) (h6 : M6.IsWhole)
    (M7 : Memref sig .tc .vmem S1x640x8 .f32) (h7 : M7.IsWhole)
    (M8 : Memref sig .tc .vmem S1x640x640 .fp8e4m3) (h8 : M8.IsWhole)
    (M9 : Memref sig .tc .vmem S1x640x160 .i8) (h9 : M9.IsWhole)
    (M10 : Memref sig .tc .vmem S4x8x8x640 .f32) (h10 : M10.IsWhole)
    (M11 : Memref sig .tc .vmem S8x1x640 .f32) (h11 : M11.IsWhole)
    (M12 : Memref sig .tc .vmem S8x1x640 .f32) (h12 : M12.IsWhole)
    (M13 : Memref sig .tc .vmem S128x640 .bf16) (h13 : M13.IsWhole)
    (M14 : Memref sig .tc .vmem S5x64x128 .f32) (h14 : M14.IsWhole)
    (M15 : Memref sig .tc .vmem S8x5x8x640 .i32) (h15 : M15.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15)
    (W : Bf (F := F) c M8 × Bf (F := F) c M9 × Bf (F := F) c M10 × Bf (F := F) c M11 × Bf (F := F) c M12 × Bf (F := F) c M13 × Bf (F := F) c M14 × Bf (F := F) c M15) : Prop :=
    ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
          ∗ (iprop(pt c M2 f2 ∗ pt c M3 f3 ∗ pt c M4 f4 ∗ pt c M5 f5 ∗ pt c M6 f6 ∗ pt c M7 f7 ∗ pt c M8 W.1 ∗ pt c M9 W.2.1 ∗ pt c M10 W.2.2.1 ∗ pt c M11 W.2.2.2.1 ∗ pt c M12 W.2.2.2.2.1 ∗ pt c M13 W.2.2.2.2.2.1 ∗ pt c M14 W.2.2.2.2.2.2.1 ∗ pt c M15 W.2.2.2.2.2.2.2) -∗ Q ⟨⟩))
        ⊢ wp frame (wpE (defs₀ (F := F)) Variants.none c none) E
            (cc0__body i M2 h2 M3 h3 M4 h4 M5 h5 M6 h6 M7 h7 M8 h8 M9 h9 M10 h10 M11 h11 M12 h12 M13 h13 M14 h14 M15 h15) Q

/-- What the body leaves in the two outputs and the six scratch buffers, as functions of what the buffers hold before it,
    with the proof that it does (`BodySpec`). -/
noncomputable def bodyRun (c : Dev nD) (i : grid0.Coords)
    (M2 : Memref sig .tc .vmem S1x640x640 .fp8e4m3) (h2 : M2.IsWhole)
    (M3 : Memref sig .tc .vmem S1x640x40 .f32) (h3 : M3.IsWhole)
    (M4 : Memref sig .tc .vmem S1x640x128 .fp8e4m3) (h4 : M4.IsWhole)
    (M5 : Memref sig .tc .vmem S1x640x8 .f32) (h5 : M5.IsWhole)
    (M6 : Memref sig .tc .vmem S1x640x128 .fp8e4m3) (h6 : M6.IsWhole)
    (M7 : Memref sig .tc .vmem S1x640x8 .f32) (h7 : M7.IsWhole)
    (M8 : Memref sig .tc .vmem S1x640x640 .fp8e4m3) (h8 : M8.IsWhole)
    (M9 : Memref sig .tc .vmem S1x640x160 .i8) (h9 : M9.IsWhole)
    (M10 : Memref sig .tc .vmem S4x8x8x640 .f32) (h10 : M10.IsWhole)
    (M11 : Memref sig .tc .vmem S8x1x640 .f32) (h11 : M11.IsWhole)
    (M12 : Memref sig .tc .vmem S8x1x640 .f32) (h12 : M12.IsWhole)
    (M13 : Memref sig .tc .vmem S128x640 .bf16) (h13 : M13.IsWhole)
    (M14 : Memref sig .tc .vmem S5x64x128 .f32) (h14 : M14.IsWhole)
    (M15 : Memref sig .tc .vmem S8x5x8x640 .i32) (h15 : M15.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) :
    { W : Bf (F := F) c M8 × Bf (F := F) c M9 × Bf (F := F) c M10 × Bf (F := F) c M11 × Bf (F := F) c M12 × Bf (F := F) c M13 × Bf (F := F) c M14 × Bf (F := F) c M15 // BodySpec c i M2 h2 M3 h3 M4 h4 M5 h5 M6 h6 M7 h7 M8 h8 M9 h9 M10 h10 M11 h11 M12 h12 M13 h13 M14 h14 M15 h15 f2 f3 f4 f5 f6 f7 f8 f9 f10 f11 f12 f13 f14 f15 W } := by
  refine ⟨⟨?_, ?_, ?_, ?_, ?_, ?_, ?_, ?_⟩, ?run⟩
  case run =>
    unfold BodySpec
    intro E Q
    iintro ⟨H2, H3, H4, H5, H6, H7, H8, H9, H10, H11, H12, H13, H14, H15, Hk⟩
    unfold cc0__body
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.KernelIdeal.Body

end
-- ==== Proof.KernelIdealFrame.lean ====
/-
  The frame of the kernel: it runs to its end without a fault and leaves its six arguments as they were. The proof data
  state only that the body leaves each input's staging buffer as it found it; what it leaves in the outputs is not named.
-/
module

public import proofs.«01_k».proof.Proof.KernelIdealBody

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

omit [FloatOps F] [Named F] in
/-- A whole memref owned at `X` is its buffer held whole, at contents read through it as `X`. -/
theorem owns_whole (c : Dev nD) {sp : Space} {S : Shape} {e : EltTy} (M : Memref sig .tc sp S e) (h : M.IsWhole) (X : S.Idx → Elt F e) :
    (owns c.tc M fullShare X : sProp 𝕄) = iprop(∃ f, ⌜M.view.read (Elt F) f = X⌝ ∗ pt c M f) := by
  unfold owns; rw [h.set_eq_univ]

/-- The proof data of the frame: the arrays at their launch contents, each input's staging buffer left as found, nothing
    said of the outputs, the scratch buffers held at some contents. -/
def fdat (c : Dev nD) : RDat τ (Elt F) Unit ℕ (UR sig nD τ) ℕ cfg0 c where
  A w := V m c (Pipeline.arrRef spec0 w)
  after w _ Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => True
    | ⟨7, _⟩ => True
  Φ _ := Pipeline.ΦA spec0 c
  q _ := fullShare
  owed _ := 0

set_option maxHeartbeats 4000000 in
/-- The body at any grid point, from any contents of its buffers. -/
theorem fbody (c : Dev nD) : (fdat m c).BodyObligation (defs₀ (F := F)) Variants.none () Set.univ := fun t Y _ => by
  rw [bigSep_W0, bigSep_W0]
  unfold defs₀; rw [Defs.onTc_tc]
  rw [show (fdat m c).Φ t.castSucc = Pipeline.ΦA spec0 c from rfl, show (fdat m c).Φ t.succ = Pipeline.ΦA spec0 c from rfl,
    show (fdat m c).owesAt () t.succ = (fdat m c).owesAt () t.castSucc from rfl]
  unfold Pipeline.ΦA; rw [scopedRest0_eq]
  simp only [owns_whole_eq, owns_whole c _ (hstage0_0 _), owns_whole c _ (hstage0_1 _), owns_whole c _ (hstage0_2 _), owns_whole c _ (hstage0_3 _), owns_whole c _ (hstage0_4 _), owns_whole c _ (hstage0_5 _), owns_whole c _ (hstage0_6 _), owns_whole c _ (hstage0_7 _)]
  iintro ⟨⟨⟨⟨%f8, H8⟩, ⟨%f9, H9⟩, ⟨%f10, H10⟩, ⟨%f11, H11⟩, ⟨%f12, H12⟩, ⟨%f13, H13⟩⟩, Hg⟩, Howes,
    ⟨%f0, %hf0, H0⟩, ⟨%f1, %hf1, H1⟩, ⟨%f2, %hf2, H2⟩, ⟨%f3, %hf3, H3⟩,
    ⟨%f4, %hf4, H4⟩, ⟨%f5, %hf5, H5⟩, ⟨%f6, %hf6, H6⟩, ⟨%f7, %hf7, H7⟩⟩
  iapply ((bodyRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f0 f1 f2 f3 f4 f5 f6 f7 f8 f9 f10 f11 f12 f13).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H0, H1, H2, H3, H4, H5, H6, H7, H8, H9, H10, H11, H12, H13⟩
  isplitl [H8 H9 H10 H11 H12 H13 Hg]
  · isplitr [Hg]
    · isplitl [H8]; · iexists _; iexact H8
      isplitl [H9]; · iexists _; iexact H9
      isplitl [H10]; · iexists _; iexact H10
      isplitl [H11]; · iexists _; iexact H11
      isplitl [H12]; · iexists _; iexact H12
      iexists _; iexact H13
    · iexact Hg
  isplitl [Howes]; · iexact Howes
  isplitl [H0]; · iexists _; isplitr; swap; (· iexists _; isplitr; swap; (· iexact H0); ipureintro; exact hf0); ipureintro; exact rfl
  isplitl [H1]; · iexists _; isplitr; swap; (· iexists _; isplitr; swap; (· iexact H1); ipureintro; exact hf1); ipureintro; exact rfl
  isplitl [H2]; · iexists _; isplitr; swap; (· iexists _; isplitr; swap; (· iexact H2); ipureintro; exact hf2); ipureintro; exact rfl
  isplitl [H3]; · iexists _; isplitr; swap; (· iexists _; isplitr; swap; (· iexact H3); ipureintro; exact hf3); ipureintro; exact rfl
  isplitl [H4]; · iexists _; isplitr; swap; (· iexists _; isplitr; swap; (· iexact H4); ipureintro; exact hf4); ipureintro; exact rfl
  isplitl [H5]; · iexists _; isplitr; swap; (· iexists _; isplitr; swap; (· iexact H5); ipureintro; exact hf5); ipureintro; exact rfl
  isplitl [H6]; · iexists _; isplitr; swap; (· iexists _; isplitr; swap; (· iexact H6); ipureintro; exact rfl); ipureintro; exact trivial
  iexists _; isplitr; swap; (· iexists _; isplitr; swap; (· iexact H7); ipureintro; exact rfl); ipureintro; exact trivial

/-- What the claim says of a run: the six argument arrays hold what they held, and every semaphore is at rest. -/
def FramePostQ (r : PUnit × MemSt nD τ sig (Elt F)) : Prop :=
  (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0

set_option backward.isDefEq.respectTransparency.types false in
/-- The kernel from any launch contents: every run terminates without a fault, leaves the six argument arrays as they
    were, and leaves every semaphore at rest. -/
theorem frame_quiescent : θ_run defs (onTc (τ := τ) (main (F := F))) ⟨m, fun _ => 0, ρ⟩ (FramePostQ m) :=
  Pipeline.RDat.θ_run_frame cfgs 0 launch0 (defs₀ (F := F)) Variants.none (fdat m) m ρ main
    (hbody := fun c => fbody m c) (hshare := fun c => (fdat m c).share_full fun _ => rfl) (howed := fun _ _ => rfl)
    (V := V m) (hmain := hmain m Variants.none) (hA := fun _ _ => rfl) (hΦ := fun _ _ => rfl)
    (Q' := FramePostQ m)
    (hQ' := fun r h => ⟨fun c => ⟨(h.1.arr_in c 0 rfl).trans (V_main_arg0 m c),
      (h.1.arr_in c 1 rfl).trans (V_main_arg1 m c),
      (h.1.arr_in c 2 rfl).trans (V_main_arg2 m c),
      (h.1.arr_in c 3 rfl).trans (V_main_arg3 m c),
      (h.1.arr_in c 4 rfl).trans (V_main_arg4 m c),
      (h.1.arr_in c 5 rfl).trans (V_main_arg5 m c)⟩, h.2⟩)

end Cert.KernelIdeal.Body

end
-- ==== Proof.Pair.lean ====
/-
  One pair of query blocks, as a function of what the kernel loads: the vectors the kernel computes for the pair, for any
  number of key tiles and for either one or two blocks side by side.
-/
module

public import proofs.«01_k».proof.Proof.Gen.KernelIdeal.Skeleton
public import proofs.«01_k».proof.Proof.Gen.KernelIdeal.Frame

@[expose] public section

set_option maxRecDepth 16384

noncomputable section

namespace Cert.KernelIdeal.Pair

open Cert.KernelIdeal Cert.KernelIdeal.Gen
open Idealize.ShloMosaic
open Idealize.ShloMosaic.TcCoe

variable {F : FTy → Type} [FloatOps F]

/-- The matrix shape of `a` rows and `b` columns. -/
abbrev S2 (a b : ℕ) : Shape := ⟨2, ![a, b]⟩

/-- A block of a matrix lies inside it when each of its two sides does. -/
theorem slices2 {a b r c p q : ℕ} (h : r + p ≤ a) (h' : c + q ≤ b) : (S2 a b).Slices ![r, c] (S2 p q) :=
  ⟨rfl, fun x => by fin_cases x; exacts [h, h']⟩

/-- Block number `j % N` of `N` blocks of equal size ends inside them. -/
theorem block_le (w N j : ℕ) : w * (j % (N + 1)) + w ≤ w * (N + 1) := by
  have h : j % (N + 1) + 1 ≤ N + 1 := Nat.mod_lt _ N.succ_pos
  calc w * (j % (N + 1)) + w = w * (j % (N + 1) + 1) := by ring
    _ ≤ w * (N + 1) := Nat.mul_le_mul_left _ h

/-- The tile of 32 rows and 128 columns at tile row `j` and tile column `c`. -/
def tile {α : Type} {n k : ℕ} (x : (S2 (32 * (n + 1)) (128 * (k + 1))).Idx → α) (j c : ℕ) : (S2 32 128).Idx → α :=
  extractStridedSlice (S2 32 128) ![32 * (j % (n + 1)), 128 * (c % (k + 1))] x (slices2 (block_le _ _ _) (block_le _ _ _))

/-- Rows `8r` to `8r + 7` of a tile. -/
def oct {α : Type} (x : (S2 32 128).Idx → α) (r : ℕ) : (S2 8 128).Idx → α :=
  extractStridedSlice (S2 8 128) ![8 * (r % 4), 0] x (slices2 (block_le 8 3 r) (by omega))

/-- Row `r` of eight rows. -/
def row8 {α : Type} (x : (S2 8 128).Idx → α) (r : ℕ) : (S2 1 128).Idx → α :=
  extractStridedSlice (S2 1 128) ![r % 8, 0] x (slices2 (by have := Nat.mod_lt r (y := 8) (by omega); omega) (by omega))

/-- The left-to-right combination of the items `0` to `n` by a binary operation. -/
def accum {α : Type} (op : α → α → α) (t : ℕ → α) : ℕ → α
  | 0 => t 0
  | n + 1 => op (accum op t n) (t (n + 1))

/-- The list of the items `s` to `s + c - 1`, each with its shape. -/
def pieces {α : Type} {S : Shape} (t : ℕ → S.Idx → α) (s : ℕ) : ℕ → List ((s : Shape) × (s.Idx → α))
  | 0 => []
  | c + 1 => ⟨S, t s⟩ :: pieces t (s + 1) c

/-- All pieces have one shape. -/
theorem pieces_shapes {α : Type} {S : Shape} (t : ℕ → S.Idx → α) (s c : ℕ) :
    (pieces t s c).map (·.1) = List.replicate c S := by
  induction c generalizing s with
  | zero => rfl
  | succ c ih => simp [pieces, ih, List.replicate_succ]

/-- Matrices of `w` rows, one under the other. -/
theorem concat_rows {α : Type} {w m : ℕ} (t : ℕ → (S2 w m).Idx → α) (c : ℕ) :
    Shape.Concatenates ((pieces t 0 (c + 2)).map (·.1)) (S2 (w * (c + 2)) m) 0 := by
  rw [pieces_shapes]
  refine ⟨by simp, ?_, ?_⟩
  · intro s hs
    obtain rfl := List.eq_of_mem_replicate hs
    refine ⟨rfl, fun b hb => ?_⟩
    fin_cases b
    · exact absurd rfl hb
    · rfl
  · simp [mul_comm]

/-- The `c + 2` matrices `t 0`, `t 1`, … of `w` rows, one under the other. -/
def stack {α : Type} {w m : ℕ} (t : ℕ → (S2 w m).Idx → α) (c : ℕ) : (S2 (w * (c + 2)) m).Idx → α :=
  concatenate (S2 (w * (c + 2)) m) 0 (pieces t 0 (c + 2)) (concat_rows t c)

/-- Two matrices of 128 columns side by side. -/
theorem concat_two {α : Type} {a : ℕ} (x y : (S2 a 128).Idx → α) :
    Shape.Concatenates (([⟨S2 a 128, x⟩, ⟨S2 a 128, y⟩] : List ((s : Shape) × (s.Idx → α))).map (·.1)) (S2 a 256) 1 := by
  refine ⟨by simp, ?_, ?_⟩
  · intro s hs
    obtain rfl : s = S2 a 128 := by simpa using hs
    refine ⟨rfl, fun b hb => ?_⟩
    fin_cases b
    · rfl
    · exact absurd rfl hb
  · simp

/-! ### Scores and weights of one block -/

/-- The lane's query unit: the lane number divided by 32, on one row. -/
def unitRow : IVec (S2 1 128) 32 := extractStridedSlice (S2 1 128) ![0, 0] k0_pay431 (slices2 (by omega) (by omega))

/-- One scale row for the four query units of block `b`: lanes `32r` to `32r + 31` from row `4b + r` of `Q`. -/
def scaleRow (Q : ℕ → FVec F (S2 1 128) .f32) (b : ℕ) : FVec F (S2 1 128) .f32 :=
  select (cmpi .eq unitRow (broadcast (S2 1 128) 3#32)) (Q (4 * b + 3))
    (select (cmpi .eq unitRow (broadcast (S2 1 128) 2#32)) (Q (4 * b + 2))
      (select (cmpi .eq unitRow (broadcast (S2 1 128) 1#32)) (Q (4 * b + 1)) (Q (4 * b))))

variable {n k : ℕ}

/-- Tile `j` of block `b`: the raw scores times the key scales, with the causal mask on the tiles that need one. -/
def score (S : FVec F (S2 (32 * (n + 2)) (128 * (k + 1))) .f32) (ks : FVec F (S2 (32 * (19 + 1)) (128 * (0 + 1))) .f32)
    (bias : ℕ → ℕ → FVec F (S2 32 128) .f32) (b c j : ℕ) : FVec F (S2 32 128) .f32 :=
  bif Nat.ble (4 * b / 5) j then minimumf (mulf (tile (n := n + 1) S j c) (tile ks j 0)) (bias (b % 5) (j - 4 * b / 5))
  else mulf (tile (n := n + 1) S j c) (tile ks j 0)

/-- The largest score of each lane over tiles `0` to `l`. -/
def top (t : ℕ → FVec F (S2 32 128) .f32) (l : ℕ) : FVec F (S2 1 128) .f32 :=
  shapeCast (S2 1 128) (multiReduction .maximumf [0] S128 (accum maximumf t l) 0xFF800000#32)

/-- The exponential of a tile's scores under the top, at the query scales `q`. -/
def expo (t : FVec F (S2 32 128) .f32) (m q : FVec F (S2 1 128) .f32) : FVec F (S2 32 128) .f32 :=
  exp2 (mulf (subf t (broadcastTo (S2 32 128) m)) (broadcastTo (S2 32 128) q))

/-- One over the sum of each lane over tiles `0` to `l`. -/
def recip (e : ℕ → FVec F (S2 32 128) .f32) (l : ℕ) : FVec F (S2 1 128) .f32 :=
  divf (broadcast (S2 1 128) (FloatOps.ofBits .f32 0x3F800000#32))
    (shapeCast (S2 1 128) (multiReduction .add [0] S128 (accum addf e l) 0#32))

/-- The weights of one block, tile by tile: zero past tile `l`. -/
def weight (t : ℕ → FVec F (S2 32 128) .f32) (q : FVec F (S2 1 128) .f32) (l j : ℕ) : FVec F (S2 32 128) .bf16 :=
  bif Nat.ble j l then
    truncf .bf16 (mulf (expo (t j) (top t l) q) (broadcastTo (S2 32 128) (recip (fun j => expo (t j) (top t l) q) l)))
  else broadcast (S2 32 128) (FloatOps.ofBits .bf16 0#16)

/-! ### The block maxima and the exponent field -/

/-- The lane-wise maximum of a tile's magnitudes over each residue of the row modulo eight. -/
def max8 (t : FVec F (S2 32 128) .f32) : FVec F (S2 8 128) .f32 :=
  maximumf (maximumf (oct (absf t) 0) (oct (absf t) 1)) (maximumf (oct (absf t) 2) (oct (absf t) 3))

/-- The row number of each element of eight rows. -/
def rowNo : IVec (S2 8 128) 32 := iota .tc (S2 8 128) 32 [0] iota_S8x128_d0_w32

/-- The constant integer matrix. -/
abbrev all (n : BitVec 32) : IVec (S2 8 128) 32 := broadcast (S2 8 128) n

/-- Whether the bit of weight `d` of the row number is zero. -/
def bitClear (d : BitVec 32) : IVec (S2 8 128) 1 :=
  let q : IVec (S2 8 128) 32 := select (andi (cmpi .ne (subi (extui 32 (cmpi .sgt rowNo (all 0#32)) natLt_1_32) (extui 32 (cmpi .slt rowNo (all 0#32)) natLt_1_32)) (all 1#32))
      (cmpi .ne (remsi rowNo (all d)) (all 0#32))) (subi (divsi rowNo (all d)) (all 1#32)) (divsi rowNo (all d))
  cmpi .eq (select (andi (xori (cmpi .slt (remsi q (all 2#32)) (all 0#32)) (broadcastTo (S2 8 128) (broadcast (S2 8 128) 0#1)))
      (cmpi .ne (remsi q (all 2#32)) (all 0#32))) (addi (remsi q (all 2#32)) (all 2#32)) (remsi q (all 2#32))) (all 0#32)

/-- One merging step: the rows of `x` and `y` interleaved by the bit of weight `d`, each the maximum of two rows. -/
def merge (d : BitVec 32) (x y : FVec F (S2 8 128) .f32) : FVec F (S2 8 128) .f32 :=
  maximumf (select (bitClear d) x y) (dynamicRotate 0 d none (select (bitClear d) y x))

/-- Eight block maxima, one in each row. -/
def merged (M : ℕ → FVec F (S2 8 128) .f32) : FVec F (S2 8 128) .f32 :=
  merge 4#32 (merge 2#32 (merge 1#32 (M 0) (M 1)) (merge 1#32 (M 2) (M 3)))
    (merge 2#32 (merge 1#32 (M 4) (M 5)) (merge 1#32 (M 6) (M 7)))

/-- The block maxima scaled to the code range, capped at the largest finite number over 448. -/
def scaled (M : ℕ → FVec F (S2 8 128) .f32) : FVec F (S2 8 128) .f32 :=
  minimumf (mulf (merged M) (broadcast (S2 8 128) (FloatOps.ofBits .f32 991054117#32)))
    (broadcast (S2 8 128) (FloatOps.ofBits .f32 2064795940#32))

/-- One step of the search for the exponent field: the bit is taken if the power of two it gives is at most `y`. -/
def step (y : FVec F (S2 8 128) .f32) (f : IVec (S2 8 128) 32) (d : BitVec 32) : IVec (S2 8 128) 32 :=
  select (cmpf .oge y (bitcastToFloat .f32 (shli (addi f (all d)) (all 23#32)))) (addi f (all d)) f

/-- The exponent field, found bit by bit from the highest. -/
def field (y : FVec F (S2 8 128) .f32) : IVec (S2 8 128) 32 :=
  step y (step y (step y (step y (step y (step y (step y (step y (all 0#32) 128#32) 64#32) 32#32) 16#32) 8#32) 4#32) 2#32) 1#32

/-- The shared exponent of a block from its field. -/
def expOf (f : IVec (S2 8 128) 32) : IVec (S2 8 128) 32 :=
  select (cmpi .eq f (all 0#32)) (all 0#32) (subi f (all 126#32))

/-- Two to the minus exponent, made from its bits. -/
def invScale (e : IVec (S2 8 128) 32) : FVec F (S2 8 128) .f32 :=
  bitcastToFloat .f32 (shli (subi (all 127#32) e) (all 23#32))

/-! ### The codes of a pair -/

/-- A tile's codes: times the inverse scale, held between -448 and 448. -/
def clip (t : FVec F (S2 32 128) .f32) (r : FVec F (S2 1 128) .f32) : FVec F (S2 32 128) .f32 :=
  minimumf (broadcast (S2 32 128) (FloatOps.ofBits .f32 1138753536#32))
    (maximumf (broadcast (S2 32 128) (FloatOps.ofBits .f32 3286237184#32)) (mulf t (broadcastTo (S2 32 128) r)))

/-- The exponents of a pair's output `o`, one per 32 rows of each block. -/
def exps (o : FVec F (S2 (32 * (3 + 1)) (128 * (k + 1))) .f32) : IVec (S2 8 128) 32 :=
  expOf (field (scaled fun r => max8 (tile o (r % 4) (r / 4))))

/-- The codes of block `c` of a pair with output `o`, one query a row. -/
def codes (o : FVec F (S2 (32 * (3 + 1)) (128 * (k + 1))) .f32) (c : ℕ) : FVec F (S2 (32 * (3 + 1)) (128 * (0 + 1))) .fp8e4m3 :=
  truncf .fp8e4m3 (transpose (S2 128 128) [1, 0]
    (stack (fun r => clip (tile o r c) (row8 (invScale (exps o)) (4 * c + r))) 2 : FVec F (S2 128 128) .f32))

/-- The stored piece of unit `r` of block `c`. -/
def piece (o : FVec F (S2 (32 * (3 + 1)) (128 * (k + 1))) .f32) (c r : ℕ) : FVec F S1x32x128 .fp8e4m3 :=
  shapeCast S1x32x128 (tile (codes o c) r 0)

/-- The tile of the last key that block `b` sees. -/
def lastTile (b : ℕ) : ℕ := (4 * b + 3) / 5

/-- The output of pair `p`: blocks `2p` and `2p + 1`. -/
def outPair (p : ℕ) (K : FVec F (S2 (32 * (n + 2)) 128) .fp8e4m3) (X : ℕ → FVec F (S2 32 128) .fp8e4m3)
    (ks : FVec F (S2 (32 * (19 + 1)) (128 * (0 + 1))) .f32) (bias : ℕ → ℕ → FVec F (S2 32 128) .f32)
    (Q : ℕ → FVec F (S2 1 128) .f32) (V : FVec F (S2 128 (32 * (n + 2))) .bf16) : FVec F (S2 128 256) .f32 :=
  let S : FVec F (S2 (32 * (n + 2)) (128 * (1 + 1))) .f32 :=
    matmul (DotDims.transposedRhs (32 * (n + 2)) 128 256) none K (stack (fun u => X (8 * p + u)) 6 : FVec F (S2 256 128) .fp8e4m3)
      (constant (S2 (32 * (n + 2)) 256) .f32 0#32)
  matmul (DotDims.plain 128 (32 * (n + 2)) 256) none V
    (concatenate (S2 (32 * (n + 2)) 256) 1
      [⟨S2 (32 * (n + 2)) 128, stack (weight (score S ks bias (2 * p) 0) (scaleRow Q (2 * p)) (lastTile (2 * p))) n⟩,
       ⟨S2 (32 * (n + 2)) 128, stack (weight (score S ks bias (2 * p + 1) 1) (scaleRow Q (2 * p + 1)) (lastTile (2 * p + 1))) n⟩]
      (concat_two _ _))
    (constant (S2 128 256) .f32 0#32)

/-- The output of the last block alone. -/
def outLast (K : FVec F (S2 640 128) .fp8e4m3) (X : ℕ → FVec F (S2 32 128) .fp8e4m3)
    (ks : FVec F (S2 (32 * (19 + 1)) (128 * (0 + 1))) .f32) (bias : ℕ → ℕ → FVec F (S2 32 128) .f32)
    (Q : ℕ → FVec F (S2 1 128) .f32) (V : FVec F (S2 128 640) .bf16) : FVec F (S2 128 128) .f32 :=
  let S : FVec F (S2 (32 * (18 + 2)) (128 * (0 + 1))) .f32 :=
    matmul (DotDims.transposedRhs 640 128 128) none K (stack (fun u => X (96 + u)) 2 : FVec F (S2 128 128) .fp8e4m3)
      (constant (S2 640 128) .f32 0#32)
  matmul (DotDims.plain 128 640 128) none V (stack (weight (score S ks bias 24 0) (scaleRow Q 24) (lastTile 24)) 18)
    (constant (S2 128 128) .f32 0#32)

end Cert.KernelIdeal.Pair

end
-- ==== Proof.Loads.lean ====
/-
  What the body loads: the query tiles, the keys, the scales, the mask and the values, as functions of the buffers' contents.
-/
module

public import proofs.«01_k».proof.Proof.KernelIdealBody
public import proofs.«01_k».proof.Proof.Pair

@[expose] public section

set_option maxRecDepth 16384

noncomputable section

namespace Cert.KernelIdeal.Body

open Cert.KernelIdeal Cert.KernelIdeal.Gen Cert.KernelIdeal.Pair
open Idealize.ShloMosaic
open Idealize.ShloMosaic.TcCoe

variable {F : FTy → Type} [FloatOps F] [Named F] {c : Dev nD}

/-- A block of one tile, as the tile. -/
abbrev castTile {α : Type} (x : S1x32x128.Idx → α) : (S2 32 128).Idx → α := shapeCast (S2 32 128) x
/-- A block of one row, as the row. -/
abbrev castRow {α : Type} (x : S1x1x1x128.Idx → α) : (S2 1 128).Idx → α := shapeCast (S2 1 128) x

/-- The queries of a unit lie in their block. -/
theorem xIn (u : ℕ) : ∀ a, (![0, 32 * (u / 5 % 20), 128 * (u % 5)] : Fin 3 → ℕ) a + S1x32x128.size a ≤ S1x640x640.size a := by
  intro a; fin_cases a
  · exact Nat.le_refl 1
  · show 32 * (u / 5 % 20) + 32 ≤ 640; omega
  · show 128 * (u % 5) + 128 ≤ 640; omega

/-- The query tile of unit `u`: query block `u / 5` of head `u % 5`. -/
def ldX (M2 : Memref sig .tc .vmem S1x640x640 .fp8e4m3) (f2 : Bf (F := F) c M2) (u : ℕ) : FVec F (S2 32 128) .fp8e4m3 :=
  castTile (M2.view.readAt (Elt F) (Rect.unit ![0, 32 * (u / 5 % 20), 128 * (u % 5)] S1x32x128.size (xIn u) : Rect S1x640x640).toLoadRect f2)

/-- The keys. -/
def ldK (M4 : Memref sig .tc .vmem S1x640x128 .fp8e4m3) (f4 : Bf (F := F) c M4) : FVec F (S2 640 128) .fp8e4m3 :=
  k0_pay432 (M4.view.readAt (Elt F) (Rect.unit ![0, 0, 0] S1x640x128.size inb_S1x640x128_S1x640x128_0_0_0 : Rect S1x640x128).toLoadRect f4)

/-- The key scales, the same in every lane. -/
def ldKs (i : grid0.Coords) (M11 : Memref sig .tc .vmem S8x1x640 .f32) (g11 : Bf (F := F) c M11) : FVec F (S2 640 128) .f32 :=
  k0_pay433 (M11.view.readAt (Elt F) (Rect.unit (k0_off1 i) S1x1x640.size (k0_off1_inb i) : Rect S8x1x640).toLoadRect g11)

/-- The tile of the mask lies in its buffer. -/
theorem biasIn (b r : ℕ) : ∀ a, (![b % 5, 32 * (r % 2), 0] : Fin 3 → ℕ) a + S1x32x128.size a ≤ S5x64x128.size a := by
  intro a; fin_cases a
  · show b % 5 + 1 ≤ 5; omega
  · show 32 * (r % 2) + 32 ≤ 64; omega
  · exact Nat.le_refl _

/-- The mask tile `r` of block phase `b`. -/
def ldBias (M14 : Memref sig .tc .vmem S5x64x128 .f32) (g14 : Bf (F := F) c M14) (b r : ℕ) : FVec F (S2 32 128) .f32 :=
  castTile (M14.view.readAt (Elt F) (Rect.unit ![b % 5, 32 * (r % 2), 0] S1x32x128.size (biasIn b r) : Rect S5x64x128).toLoadRect g14)

/-- Where the scale row of unit `u` is kept. -/
def offQ (i : grid0.Coords) (u : ℕ) : Fin 4 → ℕ :=
  ![(u + 3 * (u / 5)) % 4, (Scalar.indexCast (BitVec.ofNat 32 (i 1).val) : Index).toNat, u % 5, 128 * (u / 20 % 5)]

/-- The query scales of a unit lie in their buffer. -/
theorem qIn (i : grid0.Coords) (u : ℕ) : ∀ a, offQ i u a + S1x1x1x128.size a ≤ S4x8x8x640.size a := by
  have h := k0_off1_inb i 0
  intro a; fin_cases a
  · show (u + 3 * (u / 5)) % 4 + 1 ≤ 4; omega
  · exact h
  · show u % 5 + 1 ≤ 8; omega
  · show 128 * (u / 20 % 5) + 128 ≤ 640; omega

/-- The query scales of unit `u`, at the lanes its block gives it. -/
def ldQ (i : grid0.Coords) (M10 : Memref sig .tc .vmem S4x8x8x640 .f32) (g10 : Bf (F := F) c M10) (u : ℕ) : FVec F (S2 1 128) .f32 :=
  castRow (M10.view.readAt (Elt F) (Rect.unit (offQ i u) S1x1x1x128.size (qIn i u) : Rect S4x8x8x640).toLoadRect g10)

end Cert.KernelIdeal.Body

end
-- ==== Proof.Match.lean ====
/-
  The output of each pair of blocks, as the kernel computes it, is the pair function of what it loads.
-/
module

public import proofs.«01_k».proof.Proof.Loads

@[expose] public section

set_option maxRecDepth 16384

noncomputable section

namespace Cert.KernelIdeal.Body

open Cert.KernelIdeal Cert.KernelIdeal.Gen Cert.KernelIdeal.Pair
open Idealize.ShloMosaic
open Idealize.ShloMosaic.TcCoe

variable {F : FTy → Type} [FloatOps F] [Named F] (c : Dev nD) (i : grid0.Coords)
    (M2 : Memref sig .tc .vmem S1x640x640 .fp8e4m3) (M3 : Memref sig .tc .vmem S1x640x40 .f32)
    (M4 : Memref sig .tc .vmem S1x640x128 .fp8e4m3) (M5 : Memref sig .tc .vmem S1x640x8 .f32)
    (M6 : Memref sig .tc .vmem S1x640x128 .fp8e4m3) (M7 : Memref sig .tc .vmem S1x640x8 .f32)
    (M10 : Memref sig .tc .vmem S4x8x8x640 .f32) (M11 : Memref sig .tc .vmem S8x1x640 .f32)
    (M12 : Memref sig .tc .vmem S8x1x640 .f32) (M13 : Memref sig .tc .vmem S128x640 .bf16)
    (M14 : Memref sig .tc .vmem S5x64x128 .f32)
    (f2 : Bf (F := F) c M2) (f3 : Bf (F := F) c M3) (f4 : Bf (F := F) c M4) (f5 : Bf (F := F) c M5) (f6 : Bf (F := F) c M6)
    (f7 : Bf (F := F) c M7) (f10 : Bf (F := F) c M10) (f11 : Bf (F := F) c M11) (f12 : Bf (F := F) c M12) (f14 : Bf (F := F) c M14)

/-- The scale rows the body works with. -/
def now10 : Bf (F := F) c M10 := if hc : bodyRun.sl.v2 i = 1#1 then M10.view.writes (Elt F) f10 (bodyRun.sl.H10_160 c M3 f3) else f10
/-- The key scales the body works with. -/
def now11 : Bf (F := F) c M11 := if hc : bodyRun.sl.v2 i = 1#1 then M11.view.writes (Elt F) f11 (bodyRun.sl.H11_8 c M5 f5) else f11
/-- The mask tiles the body works with. -/
def now14 : Bf (F := F) c M14 := if hc : bodyRun.sl.v2 i = 1#1 then M14.view.writes (Elt F) f14 (⟨(Rect.unit ![4, 0, 0] S1x64x128.size inb_S5x64x128_S1x64x128_4_0_0 : Rect S5x64x128), k0_pay430 (k0_pay266 bodyRun.sl.v13506 bodyRun.sl.v13523 bodyRun.sl.v13863 bodyRun.sl.v13877 bodyRun.sl.v13879 bodyRun.sl.v13512)⟩ :: bodyRun.sl.H14_4) else f14

/-- The first `32 * (n + 2)` keys. -/
def keys (n : ℕ) (h : n ≤ 18) : FVec F (S2 (32 * (n + 2)) 128) .fp8e4m3 :=
  extractStridedSlice (S2 (32 * (n + 2)) 128) ![0, 0] (ldK M4 f4) (slices2 (by omega) (by omega))

/-- The scaled values of the first keys lie in their buffer. -/
theorem vIn (n : ℕ) (h : n ≤ 18) : ∀ a, (![0, 0] : Fin 2 → ℕ) a + (S2 128 (32 * (n + 2))).size a ≤ S128x640.size a := by
  intro a; fin_cases a
  · exact Nat.le_refl 128
  · show 0 + 32 * (n + 2) ≤ 640; omega

/-- The scaled values of the first `32 * (n + 2)` keys, one key a column. -/
def vals (n : ℕ) (h : n ≤ 18) : FVec F (S2 128 (32 * (n + 2))) .bf16 :=
  M13.view.readCov (bodyRun.sl.H13_1 c i M6 M7 M12 f6 f7 f12) (Rect.unit ![0, 0] (S2 128 (32 * (n + 2))).size (vIn n h) : Rect S128x640).toLoadRect

/-- The output that the body computes for pair 0 of blocks. -/
theorem out_0 : bodyRun.sl.v178 c i M2 M3 M4 M5 M6 M7 M10 M11 M12 M13 M14 f2 f3 f4 f5 f6 f7 f10 f11 f12 f14
    = outPair (n := 0) 0 (keys c M4 f4 0 (by omega)) (ldX M2 f2) (ldKs i M11 (now11 c i M5 M11 f5 f11)) (ldBias M14 (now14 c i M14 f14)) (ldQ i M10 (now10 c i M3 M10 f3 f10)) (vals c i M6 M7 M12 M13 f6 f7 f12 0 (by omega)) := rfl

/-- The output that the body computes for pair 1 of blocks. -/
theorem out_1 : bodyRun.sl.v991 c i M2 M3 M4 M5 M6 M7 M10 M11 M12 M13 M14 f2 f3 f4 f5 f6 f7 f10 f11 f12 f14
    = outPair (n := 2) 1 (keys c M4 f4 2 (by omega)) (ldX M2 f2) (ldKs i M11 (now11 c i M5 M11 f5 f11)) (ldBias M14 (now14 c i M14 f14)) (ldQ i M10 (now10 c i M3 M10 f3 f10)) (vals c i M6 M7 M12 M13 f6 f7 f12 2 (by omega)) := rfl

/-- The output that the body computes for pair 2 of blocks. -/
theorem out_2 : bodyRun.sl.v1824 c i M2 M3 M4 M5 M6 M7 M10 M11 M12 M13 M14 f2 f3 f4 f5 f6 f7 f10 f11 f12 f14
    = outPair (n := 3) 2 (keys c M4 f4 3 (by omega)) (ldX M2 f2) (ldKs i M11 (now11 c i M5 M11 f5 f11)) (ldBias M14 (now14 c i M14 f14)) (ldQ i M10 (now10 c i M3 M10 f3 f10)) (vals c i M6 M7 M12 M13 f6 f7 f12 3 (by omega)) := rfl

/-- The output that the body computes for pair 3 of blocks. -/
theorem out_3 : bodyRun.sl.v2715 c i M2 M3 M4 M5 M6 M7 M10 M11 M12 M13 M14 f2 f3 f4 f5 f6 f7 f10 f11 f12 f14
    = outPair (n := 5) 3 (keys c M4 f4 5 (by omega)) (ldX M2 f2) (ldKs i M11 (now11 c i M5 M11 f5 f11)) (ldBias M14 (now14 c i M14 f14)) (ldQ i M10 (now10 c i M3 M10 f3 f10)) (vals c i M6 M7 M12 M13 f6 f7 f12 5 (by omega)) := rfl

/-- The output that the body computes for pair 4 of blocks. -/
theorem out_4 : bodyRun.sl.v3641 c i M2 M3 M4 M5 M6 M7 M10 M11 M12 M13 M14 f2 f3 f4 f5 f6 f7 f10 f11 f12 f14
    = outPair (n := 6) 4 (keys c M4 f4 6 (by omega)) (ldX M2 f2) (ldKs i M11 (now11 c i M5 M11 f5 f11)) (ldBias M14 (now14 c i M14 f14)) (ldQ i M10 (now10 c i M3 M10 f3 f10)) (vals c i M6 M7 M12 M13 f6 f7 f12 6 (by omega)) := rfl

/-- The output that the body computes for pair 5 of blocks. -/
theorem out_5 : bodyRun.sl.v4607 c i M2 M3 M4 M5 M6 M7 M10 M11 M12 M13 M14 f2 f3 f4 f5 f6 f7 f10 f11 f12 f14
    = outPair (n := 8) 5 (keys c M4 f4 8 (by omega)) (ldX M2 f2) (ldKs i M11 (now11 c i M5 M11 f5 f11)) (ldBias M14 (now14 c i M14 f14)) (ldQ i M10 (now10 c i M3 M10 f3 f10)) (vals c i M6 M7 M12 M13 f6 f7 f12 8 (by omega)) := rfl

/-- The output that the body computes for pair 6 of blocks. -/
theorem out_6 : bodyRun.sl.v5628 c i M2 M3 M4 M5 M6 M7 M10 M11 M12 M13 M14 f2 f3 f4 f5 f6 f7 f10 f11 f12 f14
    = outPair (n := 10) 6 (keys c M4 f4 10 (by omega)) (ldX M2 f2) (ldKs i M11 (now11 c i M5 M11 f5 f11)) (ldBias M14 (now14 c i M14 f14)) (ldQ i M10 (now10 c i M3 M10 f3 f10)) (vals c i M6 M7 M12 M13 f6 f7 f12 10 (by omega)) := rfl

/-- The output that the body computes for pair 7 of blocks. -/
theorem out_7 : bodyRun.sl.v6669 c i M2 M3 M4 M5 M6 M7 M10 M11 M12 M13 M14 f2 f3 f4 f5 f6 f7 f10 f11 f12 f14
    = outPair (n := 11) 7 (keys c M4 f4 11 (by omega)) (ldX M2 f2) (ldKs i M11 (now11 c i M5 M11 f5 f11)) (ldBias M14 (now14 c i M14 f14)) (ldQ i M10 (now10 c i M3 M10 f3 f10)) (vals c i M6 M7 M12 M13 f6 f7 f12 11 (by omega)) := rfl

/-- The output that the body computes for pair 8 of blocks. -/
theorem out_8 : bodyRun.sl.v7768 c i M2 M3 M4 M5 M6 M7 M10 M11 M12 M13 M14 f2 f3 f4 f5 f6 f7 f10 f11 f12 f14
    = outPair (n := 13) 8 (keys c M4 f4 13 (by omega)) (ldX M2 f2) (ldKs i M11 (now11 c i M5 M11 f5 f11)) (ldBias M14 (now14 c i M14 f14)) (ldQ i M10 (now10 c i M3 M10 f3 f10)) (vals c i M6 M7 M12 M13 f6 f7 f12 13 (by omega)) := rfl

/-- The output that the body computes for pair 9 of blocks. -/
theorem out_9 : bodyRun.sl.v8902 c i M2 M3 M4 M5 M6 M7 M10 M11 M12 M13 M14 f2 f3 f4 f5 f6 f7 f10 f11 f12 f14
    = outPair (n := 14) 9 (keys c M4 f4 14 (by omega)) (ldX M2 f2) (ldKs i M11 (now11 c i M5 M11 f5 f11)) (ldBias M14 (now14 c i M14 f14)) (ldQ i M10 (now10 c i M3 M10 f3 f10)) (vals c i M6 M7 M12 M13 f6 f7 f12 14 (by omega)) := rfl

/-- The output that the body computes for pair 10 of blocks. -/
theorem out_10 : bodyRun.sl.v10076 c i M2 M3 M4 M5 M6 M7 M10 M11 M12 M13 M14 f2 f3 f4 f5 f6 f7 f10 f11 f12 f14
    = outPair (n := 16) 10 (keys c M4 f4 16 (by omega)) (ldX M2 f2) (ldKs i M11 (now11 c i M5 M11 f5 f11)) (ldBias M14 (now14 c i M14 f14)) (ldQ i M10 (now10 c i M3 M10 f3 f10)) (vals c i M6 M7 M12 M13 f6 f7 f12 16 (by omega)) := rfl

/-- The output that the body computes for pair 11 of blocks. -/
theorem out_11 : bodyRun.sl.v11304 c i M2 M3 M4 M5 M6 M7 M10 M11 M12 M13 M14 f2 f3 f4 f5 f6 f7 f10 f11 f12 f14
    = outPair (n := 18) 11 (ldK M4 f4) (ldX M2 f2) (ldKs i M11 (now11 c i M5 M11 f5 f11)) (ldBias M14 (now14 c i M14 f14)) (ldQ i M10 (now10 c i M3 M10 f3 f10)) (vals c i M6 M7 M12 M13 f6 f7 f12 18 (by omega)) := rfl

/-- The output that the body computes for the last block. -/
theorem out_12 : bodyRun.sl.v12237 c i M2 M3 M4 M5 M6 M7 M10 M11 M12 M13 M14 f2 f3 f4 f5 f6 f7 f10 f11 f12 f14
    = outLast (ldK M4 f4) (ldX M2 f2) (ldKs i M11 (now11 c i M5 M11 f5 f11)) (ldBias M14 (now14 c i M14 f14)) (ldQ i M10 (now10 c i M3 M10 f3 f10)) (vals c i M6 M7 M12 M13 f6 f7 f12 18 (by omega)) := rfl

/-- The output of pair `p`, out of the loads. -/
def outAt (p : ℕ) : FVec F (S2 128 256) .f32 :=
  bif Nat.beq p 11 then outPair (n := 18) 11 (ldK M4 f4) (ldX M2 f2) (ldKs i M11 (now11 c i M5 M11 f5 f11)) (ldBias M14 (now14 c i M14 f14)) (ldQ i M10 (now10 c i M3 M10 f3 f10)) (vals c i M6 M7 M12 M13 f6 f7 f12 18 (by omega))
  else outPair (n := ((8 * p + 7) / 5 - 1) % 19) p (keys c M4 f4 (((8 * p + 7) / 5 - 1) % 19) (by omega)) (ldX M2 f2) (ldKs i M11 (now11 c i M5 M11 f5 f11)) (ldBias M14 (now14 c i M14 f14)) (ldQ i M10 (now10 c i M3 M10 f3 f10))
    (vals c i M6 M7 M12 M13 f6 f7 f12 (((8 * p + 7) / 5 - 1) % 19) (by omega))

/-- The output of the last block, out of the loads. -/
def outEnd : FVec F (S2 128 128) .f32 :=
  outLast (ldK M4 f4) (ldX M2 f2) (ldKs i M11 (now11 c i M5 M11 f5 f11)) (ldBias M14 (now14 c i M14 f14)) (ldQ i M10 (now10 c i M3 M10 f3 f10)) (vals c i M6 M7 M12 M13 f6 f7 f12 18 (by omega))

/-- The stored codes of unit `u`. -/
def codeOf (u : ℕ) : FVec F S1x32x128 .fp8e4m3 :=
  bif Nat.ble 96 u then piece (k := 0) (outEnd c i M2 M3 M4 M5 M6 M7 M10 M11 M12 M13 M14 f2 f3 f4 f5 f6 f7 f10 f11 f12 f14) 0 (u % 4)
  else piece (k := 1) (outAt c i M2 M3 M4 M5 M6 M7 M10 M11 M12 M13 M14 f2 f3 f4 f5 f6 f7 f10 f11 f12 f14 (u / 8)) (u / 4 % 2) (u % 4)

/-- The list of the first `u` of the stores `P`, the latest first. -/
def listOf {Val : EltTy → Type} {S : Shape} {e : EltTy} (P : ℕ → View.Piece Val S e) : ℕ → List (View.Piece Val S e)
  | 0 => []
  | u + 1 => P u :: listOf P u

/-- The store of unit `u`'s codes: 32 rows of 128 columns. -/
def codePiece (t : ℕ → FVec F S1x32x128 .fp8e4m3) (u : ℕ) : View.Piece (Elt F) S1x640x640 .fp8e4m3 :=
  ⟨Rect.unit ![0, 32 * (u / 5 % 20), 128 * (u % 5)] S1x32x128.size (xIn u), t u⟩

/-- What the body stores in the block of codes. -/
theorem codes_100 : bodyRun.sl.H8_100 c i M2 M3 M4 M5 M6 M7 M10 M11 M12 M13 M14 f2 f3 f4 f5 f6 f7 f10 f11 f12 f14 = listOf (codePiece (codeOf c i M2 M3 M4 M5 M6 M7 M10 M11 M12 M13 M14 f2 f3 f4 f5 f6 f7 f10 f11 f12 f14)) 100 := rfl

end Cert.KernelIdeal.Body

end
-- ==== Proof.Prologue.lean ====
/-
  What the body writes in its scratch buffers: the query scales, the key and value scales, the mask, the values, and the
  exponents of the codes; and the scale block read off the exponents at the last key head.
-/
module

public import proofs.«01_k».proof.Proof.Match

@[expose] public section

set_option maxRecDepth 16384

noncomputable section

namespace Cert.KernelIdeal.Body

open Cert.KernelIdeal Cert.KernelIdeal.Gen Cert.KernelIdeal.Pair
open Idealize.ShloMosaic
open Idealize.ShloMosaic.TcCoe

variable {F : FTy → Type} [FloatOps F] [Named F] (c : Dev nD) (i : grid0.Coords)
    (M2 : Memref sig .tc .vmem S1x640x640 .fp8e4m3) (M3 : Memref sig .tc .vmem S1x640x40 .f32)
    (M4 : Memref sig .tc .vmem S1x640x128 .fp8e4m3) (M5 : Memref sig .tc .vmem S1x640x8 .f32)
    (M6 : Memref sig .tc .vmem S1x640x128 .fp8e4m3) (M7 : Memref sig .tc .vmem S1x640x8 .f32)
    (M10 : Memref sig .tc .vmem S4x8x8x640 .f32) (M11 : Memref sig .tc .vmem S8x1x640 .f32)
    (M12 : Memref sig .tc .vmem S8x1x640 .f32) (M13 : Memref sig .tc .vmem S128x640 .bf16)
    (M14 : Memref sig .tc .vmem S5x64x128 .f32) (M15 : Memref sig .tc .vmem S8x5x8x640 .i32)
    (f2 : Bf (F := F) c M2) (f3 : Bf (F := F) c M3) (f4 : Bf (F := F) c M4) (f5 : Bf (F := F) c M5) (f6 : Bf (F := F) c M6)
    (f7 : Bf (F := F) c M7) (f10 : Bf (F := F) c M10) (f11 : Bf (F := F) c M11) (f12 : Bf (F := F) c M12) (f14 : Bf (F := F) c M14)
    (f15 : Bf (F := F) c M15)

/-! ### The query scales -/

/-- Each stored piece of query scales lies in its buffer. -/
theorem qsIn (t : ℕ) : ∀ a, (![t % 4, t / 4 % 8, 0, 128 * (t / 32 % 5)] : Fin 4 → ℕ) a + S1x1x5x128.size a ≤ S4x8x8x640.size a := by
  intro a; fin_cases a
  · show t % 4 + 1 ≤ 4; omega
  · show t / 4 % 8 + 1 ≤ 8; omega
  · show 0 + 5 ≤ 8; omega
  · show 128 * (t / 32 % 5) + 128 ≤ 640; omega

/-- The scales of one key head's five query heads over 128 queries. -/
def qsBase (x : FVec F S40x640 .f32) (t : ℕ) : FVec F (S2 5 128) .f32 :=
  extractStridedSlice (S2 5 128) ![5 * (t / 4 % 8), 128 * (t / 32 % 5)] x (slices2 (by omega) (by omega))

/-- Store `t` of the query scales: rotated by `t % 4` query blocks. -/
def qsPiece (x : FVec F S40x640 .f32) (t : ℕ) : View.Piece (Elt F) S4x8x8x640 .f32 :=
  ⟨Rect.unit ![t % 4, t / 4 % 8, 0, 128 * (t / 32 % 5)] S1x1x5x128.size (qsIn t),
    shapeCast S1x1x5x128 (bif Nat.beq (t % 4) 0 then qsBase x t
      else dynamicRotate 1 (BitVec.ofNat 32 (32 * (t % 4))) none (qsBase x t))⟩

/-- The query scales as loaded. -/
def ldXs : Vec F S1x640x40 .f32 :=
  M3.view.readAt (Elt F) (Rect.unit ![0, 0, 0] S1x640x40.size inb_S1x640x40_S1x640x40_0_0_0 : Rect S1x640x40).toLoadRect f3

/-- What the first point of a batch stores as query scales: 160 pieces of one form. -/
theorem qs_list : bodyRun.sl.H10_160 c M3 f3 = listOf (qsPiece (k0_pay1 (ldXs c M3 f3))) 160 := rfl

/-! ### The key scales and the value scales -/

/-- Each row of scales lies in its buffer. -/
theorem rowIn (h : ℕ) : ∀ a, (![h % 8, 0, 0] : Fin 3 → ℕ) a + S1x1x640.size a ≤ S8x1x640.size a := by
  intro a; fin_cases a
  · show h % 8 + 1 ≤ 8; omega
  · exact Nat.le_refl 1
  · exact Nat.le_refl 640

/-- Row `h` of the transposed scales, stored at `h`. -/
def ksPiece (x : Vec F S1x640x8 .f32) (h : ℕ) : View.Piece (Elt F) S8x1x640 .f32 :=
  ⟨Rect.unit ![h % 8, 0, 0] S1x1x640.size (rowIn h),
    shapeCast S1x1x640 (extractStridedSlice (S2 1 640) ![h % 8, 0] (transpose (S2 8 640) [1, 0] (shapeCast (S2 640 8) x))
      (slices2 (by omega) (by omega)))⟩

/-- The key scales as loaded. -/
def ldKsc : Vec F S1x640x8 .f32 :=
  M5.view.readAt (Elt F) (Rect.unit ![0, 0, 0] S1x640x8.size inb_S1x640x8_S1x640x8_0_0_0 : Rect S1x640x8).toLoadRect f5
/-- The value scales as loaded. -/
def ldVsc : Vec F S1x640x8 .f32 :=
  M7.view.readAt (Elt F) (Rect.unit ![0, 0, 0] S1x640x8.size inb_S1x640x8_S1x640x8_0_0_0 : Rect S1x640x8).toLoadRect f7

/-- What the first point of a batch stores as key scales: eight rows of one form. -/
theorem ks_list : bodyRun.sl.H11_8 c M5 f5 = listOf (ksPiece (ldKsc c M5 f5)) 8 := rfl
/-- What the first point of a batch stores as value scales: eight rows of one form. -/
theorem vs_list : bodyRun.sl.H12_8 c M7 f7 = listOf (ksPiece (ldVsc c M7 f7)) 8 := rfl

/-- The value scales the body works with. -/
def now12 : Bf (F := F) c M12 := if hc : bodyRun.sl.v2 i = 1#1 then M12.view.writes (Elt F) f12 (bodyRun.sl.H12_8 c M7 f7) else f12

/-! ### The values -/

/-- The values as loaded. -/
def ldV : Vec F S1x640x128 .fp8e4m3 :=
  M6.view.readAt (Elt F) (Rect.unit ![0, 0, 0] S1x640x128.size inb_S1x640x128_S1x640x128_0_0_0 : Rect S1x640x128).toLoadRect f6

/-- The value scales of the key head. -/
def ldVs (g12 : Bf (F := F) c M12) : Vec F S1x1x640 .f32 :=
  M12.view.readAt (Elt F) (Rect.unit (k0_off1 i) S1x1x640.size (k0_off1_inb i) : Rect S8x1x640).toLoadRect g12

/-- The values times their scales, one key a column. -/
def scaledV (v : Vec F S1x640x128 .fp8e4m3) (s : Vec F S1x1x640 .f32) : FVec F S128x640 .bf16 :=
  shapeCast S128x640 (truncf .bf16 (mulf (transpose S128x640 [1, 0] (k0_pay434 v)) (broadcastTo S128x640 (shapeCast S1x640 s))))

/-- What every point stores as scaled values. -/
theorem v_list : bodyRun.sl.H13_1 c i M6 M7 M12 f6 f7 f12
    = [⟨Rect.unit ![0, 0] S128x640.size inb_S128x640_S128x640_0_0, scaledV (ldV c M6 f6) (ldVs c i M12 (now12 c i M7 M12 f7 f12))⟩] := rfl

/-! ### The mask -/

/-- The constant integer matrix of a mask tile pair. -/
abbrev allM (n : BitVec 32) : IVec (S2 64 128) 32 := broadcast (S2 64 128) n

/-- The row number and the lane number. -/
def rowM : IVec (S2 64 128) 32 := iota .tc (S2 64 128) 32 [0] iota_S64x128_d0_w32
/-- The lane number at every element. -/
def laneM : IVec (S2 64 128) 32 := iota .tc (S2 64 128) 32 [1] iota_S64x128_d1_w32

/-- The quotient rounded down. -/
def fdivM (x : IVec (S2 64 128) 32) (d : BitVec 32) : IVec (S2 64 128) 32 :=
  select (andi (cmpi .ne (subi (extui 32 (cmpi .sgt x (allM 0#32)) natLt_1_32) (extui 32 (cmpi .slt x (allM 0#32)) natLt_1_32)) (allM 1#32))
    (cmpi .ne (remsi x (allM d)) (allM 0#32))) (subi (divsi x (allM d)) (allM 1#32)) (divsi x (allM d))

/-- The remainder that goes with it. -/
def fmodM (x : IVec (S2 64 128) 32) (d : BitVec 32) : IVec (S2 64 128) 32 :=
  select (andi (xori (cmpi .slt (remsi x (allM d)) (allM 0#32)) (broadcastTo (S2 64 128) (broadcast (S2 64 128) 0#1)))
    (cmpi .ne (remsi x (allM d)) (allM 0#32))) (addi (remsi x (allM d)) (allM d)) (remsi x (allM d))

/-- The position of each lane's query, for block `b`. -/
def posM (b : ℕ) : IVec (S2 64 128) 32 :=
  addi (fmodM laneM 32#32) (muli (fdivM (addi (fdivM laneM 32#32) (allM (BitVec.ofNat 32 (4 * b)))) 5#32) (allM 32#32))

/-- The mask of block `b`: plus infinity where the key is not after the query, minus infinity elsewhere. -/
def maskM (b : ℕ) : FVec F (S2 64 128) .f32 :=
  select (cmpi .sle (addi rowM (allM (BitVec.ofNat 32 (32 * (4 * b / 5))))) (posM b))
    (broadcast (S2 64 128) (FloatOps.ofBits .f32 0x7F800000#32)) (broadcast (S2 64 128) (FloatOps.ofBits .f32 0xFF800000#32))

/-- Each piece of the mask lies in its buffer. -/
theorem maskIn (b : ℕ) : ∀ a, (![b % 5, 0, 0] : Fin 3 → ℕ) a + S1x64x128.size a ≤ S5x64x128.size a := by
  intro a; fin_cases a
  · show b % 5 + 1 ≤ 5; omega
  · exact Nat.le_refl 64
  · exact Nat.le_refl 128

/-- Store `b` of the mask. -/
def maskPiece (b : ℕ) : View.Piece (Elt F) S5x64x128 .f32 :=
  ⟨Rect.unit ![b % 5, 0, 0] S1x64x128.size (maskIn b), shapeCast S1x64x128 (maskM b)⟩

/-- The mask the body works with: five pieces of one form, stored by the first point of a batch. -/
theorem mask_list : now14 c i M14 f14 = if hc : bodyRun.sl.v2 i = 1#1 then M14.view.writes (Elt F) f14 (listOf maskPiece 5) else f14 := rfl

end Cert.KernelIdeal.Body

end
-- ==== Proof.Soft.lean ====
/-
  The attention of one query on extended reals: the softmax with base two taken before the query's scale is the softmax
  with base e taken after it.
-/
module

public import Idealize.ShloMosaic.PureOps.Ideal
public import Mathlib.Analysis.SpecialFunctions.Log.Basic
public import Mathlib.Analysis.SpecialFunctions.Pow.Real

@[expose] public section

noncomputable section

namespace Cert.Soft

open Idealize.ShloMosaic

/-- The scale of the scores: one over the square root of 128. -/
def scale : EReal := ((Real.sqrt 128)⁻¹ : ℝ)
/-- The scale of the scores for base two. -/
def scale2 : EReal := ((Real.sqrt 128)⁻¹ * (Real.log 2)⁻¹ : ℝ)

/-- The causal mask: minus infinity after the query's position. -/
def masked (pos : ℕ) (a : ℕ → EReal) (k : ℕ) : EReal := if k ≤ pos then a k else ⊥

/-- The exponentials in base two of the first `n` scores `a`, the largest taken off, at the scale `q`. -/
def num (a : ℕ → EReal) (q : EReal) (n k : ℕ) : EReal := Ideal.exp2 ((a k - (Finset.range n).sup a) * q)

/-- The weights: the exponentials times one over their sum. -/
def wt (a : ℕ → EReal) (q : EReal) (n k : ℕ) : EReal := num a q n k * Ideal.div 1 (∑ j ∈ Finset.range n, num a q n j)

/-- Minus infinity less anything is minus infinity. -/
theorem bot_sub (m : EReal) : (⊥ : EReal) - m = ⊥ := by rw [sub_eq_add_neg, EReal.bot_add]

/-- A later key has exponential 0. -/
theorem masked_num (pos : ℕ) (a : ℕ → EReal) (q : EReal) (hq : 0 < q) (n k : ℕ) (h : pos < k) : num (masked pos a) q n k = 0 := by
  unfold num masked
  rw [if_neg (by omega), bot_sub, EReal.bot_mul_of_pos hq]
  rfl

/-- Later keys do not change the largest score. -/
theorem sup_ext (pos : ℕ) (a : ℕ → EReal) {n N : ℕ} (h : pos < n) (hN : n ≤ N) :
    (Finset.range n).sup (masked pos a) = (Finset.range N).sup (masked pos a) := by
  apply le_antisymm
  · exact Finset.sup_mono (Finset.range_mono hN)
  · refine Finset.sup_le fun k _ => ?_
    by_cases hk : k < n
    · exact Finset.le_sup (f := masked pos a) (Finset.mem_range.2 hk)
    · unfold masked; rw [if_neg (by omega)]; exact bot_le

/-- Keys after the query's position change nothing. -/
theorem num_ext (pos : ℕ) (a : ℕ → EReal) (q : EReal) {n N : ℕ} (h : pos < n) (hN : n ≤ N) (k : ℕ) :
    num (masked pos a) q n k = num (masked pos a) q N k := by
  unfold num; rw [sup_ext pos a h hN]

/-- Later keys do not change the weights. -/
theorem wt_ext (pos : ℕ) (a : ℕ → EReal) (q : EReal) (hq : 0 < q) {n N : ℕ} (h : pos < n) (hN : n ≤ N) (k : ℕ) :
    wt (masked pos a) q n k = wt (masked pos a) q N k := by
  unfold wt
  rw [num_ext pos a q h hN]
  congr 2
  rw [← Finset.sum_subset (Finset.range_mono hN) fun j _ hj => masked_num pos a q hq N j
    (by have : ¬ j < n := fun hh => hj (Finset.mem_range.2 hh)
        omega)]
  exact Finset.sum_congr rfl fun j _ => num_ext pos a q h hN j

/-- A later key has weight 0. -/
theorem wt_zero (pos : ℕ) (a : ℕ → EReal) (q : EReal) (hq : 0 < q) (n k : ℕ) (h : pos < k) : wt (masked pos a) q n k = 0 := by
  unfold wt; rw [masked_num pos a q hq n k h, zero_mul]

/-- The score scale is positive. -/
theorem scale_pos : 0 < scale := by
  unfold scale; exact_mod_cast inv_pos.2 (Real.sqrt_pos.2 (by norm_num))

/-- The score scale for base two is positive. -/
theorem scale2_pos : 0 < scale2 := by
  unfold scale2
  exact_mod_cast mul_pos (inv_pos.2 (Real.sqrt_pos.2 (by norm_num))) (inv_pos.2 (Real.log_pos (by norm_num)))

/-- Base two at the exponent over the logarithm of two is base e. -/
theorem exp2_eq (z : EReal) : Ideal.exp2 (z * ((Real.log 2)⁻¹ : ℝ)) = Ideal.exp z := by
  have h2 : 0 < (Real.log 2)⁻¹ := inv_pos.2 (Real.log_pos (by norm_num))
  have h2' : (0 : EReal) < ((Real.log 2)⁻¹ : ℝ) := by exact_mod_cast h2
  induction z using EReal.rec with
  | bot => rw [EReal.bot_mul_of_pos h2']; rfl
  | top => rw [EReal.top_mul_of_pos h2']; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num)]
    congr 1
    have : Real.log 2 ≠ 0 := (Real.log_pos (by norm_num)).ne'
    field_simp

/-- The score scale for base two is the score scale over the logarithm of two. -/
theorem scale2_eq : scale2 = scale * ((Real.log 2)⁻¹ : ℝ) := by
  unfold scale scale2; exact EReal.coe_mul _ _

variable {x : EReal}

/-- A positive finite scale times the score scale is positive and finite. -/
theorem pos_real (h0 : 0 < x) (h1 : x < ⊤) : ∃ r : ℝ, 0 < r ∧ x = (r : EReal) := by
  induction x using EReal.rec with
  | bot => simp at h0
  | top => simp at h1
  | coe r => exact ⟨r, by exact_mod_cast h0, rfl⟩

/-- A positive finite number times the score scale is a positive real. -/
theorem mul_scale (h0 : 0 < x) (h1 : x < ⊤) : ∃ r : ℝ, 0 < r ∧ x * scale = (r : EReal) := by
  obtain ⟨r, hr, rfl⟩ := pos_real h0 h1
  refine ⟨r * (Real.sqrt 128)⁻¹, mul_pos hr (inv_pos.2 (Real.sqrt_pos.2 (by norm_num))), ?_⟩
  unfold scale; exact (EReal.coe_mul _ _).symm

/-- A positive finite number times the score scale for base two is positive. -/
theorem mul_scale2_pos (h0 : 0 < x) (h1 : x < ⊤) : 0 < x * scale2 := by
  obtain ⟨r, hr, rfl⟩ := pos_real h0 h1
  unfold scale2
  rw [← EReal.coe_mul]
  exact_mod_cast mul_pos hr (mul_pos (inv_pos.2 (Real.sqrt_pos.2 (by norm_num))) (inv_pos.2 (Real.log_pos (by norm_num))))

/-- The largest of scaled scores is the largest score, scaled. -/
theorem sup_mul (s : Finset ℕ) (a : ℕ → EReal) (r : ℝ) (hr : 0 < r) : s.sup a * (r : EReal) = s.sup fun k => a k * (r : EReal) := by
  have hr' : (0 : EReal) < (r : EReal) := by exact_mod_cast hr
  exact Finset.comp_sup_eq_sup_comp_of_is_total (fun y => y * (r : EReal))
    (fun y z h => mul_le_mul_of_nonneg_right h hr'.le) (EReal.bot_mul_of_pos hr')

/-- A positive real factor distributes over a difference. -/
theorem sub_mul_real (y z : EReal) (r : ℝ) (hr : 0 < r) : (y - z) * (r : EReal) = y * (r : EReal) - z * (r : EReal) := by
  have hr' : (0 : EReal) ≤ (r : EReal) := by exact_mod_cast hr.le
  rw [sub_eq_add_neg, sub_eq_add_neg, mul_comm, EReal.left_distrib_of_nonneg_of_ne_top hr' (EReal.coe_ne_top r), ← EReal.neg_mul,
    mul_comm y, mul_comm (-z)]

/-- The exponentials in base e of the scaled scores are those in base two of the scores. -/
theorem exp_scaled (a : ℕ → EReal) (h0 : 0 < x) (h1 : x < ⊤) (n k : ℕ) :
    Ideal.exp (a k * (x * scale) - (Finset.range n).sup fun j => a j * (x * scale)) = num a (x * scale2) n k := by
  obtain ⟨r, hr, e⟩ := mul_scale h0 h1
  unfold num
  rw [e, ← sup_mul _ _ r hr, ← sub_mul_real _ _ r hr, ← exp2_eq, ← e, scale2_eq]
  congr 1
  simp only [mul_assoc]

/-- The masked scores, scaled in the order of the plain form. -/
theorem masked_scaled (pos : ℕ) (s ks : ℕ → EReal) (h0 : 0 < x) (h1 : x < ⊤) :
    masked pos (fun k => ((s k * x) * ks k) * scale) = fun k => masked pos (fun k => s k * ks k) k * (x * scale) := by
  funext k
  unfold masked
  split
  · ac_rfl
  · obtain ⟨r, hr, e⟩ := mul_scale h0 h1
    rw [e, EReal.bot_mul_of_pos (by exact_mod_cast hr)]

/-- The exponentials of the plain form. -/
def numE (sc : ℕ → EReal) (n k : ℕ) : EReal := Ideal.exp (sc k - (Finset.range n).sup sc)

/-- The exponentials of the scaled scores are those in base two of the scores, the query scale moved out of the maximum. -/
theorem numE_eq (pos : ℕ) (s ks : ℕ → EReal) (h0 : 0 < x) (h1 : x < ⊤) (n k : ℕ) :
    numE (masked pos fun k => ((s k * x) * ks k) * scale) n k = num (masked pos fun k => s k * ks k) (x * scale2) n k := by
  unfold numE
  rw [masked_scaled pos s ks h0 h1]
  exact exp_scaled _ h0 h1 n k

end Cert.Soft

end
-- ==== Proof.Read.lean ====
/-
  The pieces of one pair of blocks read at an element: tiles, stacks, the largest score, the sum, the weights.
-/
module

public import proofs.«01_k».proof.Proof.Pair
public import proofs.«01_k».proof.Proof.Soft
public import Idealize.ShloMosaic.Lib.ValueLayout
public import Idealize.ShloMosaic.Lib.MatmulPlain
public import Idealize.ShloMosaic.Lib.KernelVsHost
public import Idealize.ShloMosaic.Lib.Pipeline.Value
public import Idealize.ShloMosaic.PureOps.Ideal.Laws

@[expose] public section

set_option maxRecDepth 16384

noncomputable section

namespace Cert.KernelIdeal.Pair

open Cert.KernelIdeal Cert.KernelIdeal.Gen Cert.Soft
open Idealize.ShloMosaic Idealize.ShloMosaic.ValueIdx
open Idealize.ShloMosaic.TcCoe

/-! ### Layout -/

section Layout

variable {α : Type}

/-- A block of a matrix read at an element. -/
theorem block_apply {a b p q r c : ℕ} (x : (S2 a b).Idx → α) (h : (S2 a b).Slices ![r, c] (S2 p q)) (i : Fin p) (j : Fin q)
    (R : Fin a) (C : Fin b) (hR : R.val = r + i.val) (hC : C.val = c + j.val) :
    extractStridedSlice (S2 p q) ![r, c] x h (ix2 i j) = x (ix2 R C) := by
  unfold extractStridedSlice
  refine congrArg x (funext fun e => ?_)
  fin_cases e
  · exact Fin.ext hR.symm
  · exact Fin.ext hC.symm

/-- A tile of 32 rows and 128 lanes at an element. -/
theorem tile_apply {n k : ℕ} (x : (S2 (32 * (n + 1)) (128 * (k + 1))).Idx → α) (j c : ℕ) (r : Fin 32) (l : Fin 128)
    (R : Fin (32 * (n + 1))) (C : Fin (128 * (k + 1))) (hR : R.val = 32 * (j % (n + 1)) + r.val) (hC : C.val = 128 * (c % (k + 1)) + l.val) :
    tile x j c (ix2 r l) = x (ix2 R C) :=
  block_apply x _ r l R C hR hC

/-- A piece by its number. -/
theorem pieces_get {S : Shape} (t : ℕ → S.Idx → α) : ∀ (c s i : ℕ) (h : i < (pieces t s c).length), (pieces t s c)[i] = ⟨S, t (s + i)⟩
  | 0, s, i, h => absurd h (by simp [pieces])
  | c + 1, s, 0, h => rfl
  | c + 1, s, i + 1, h => by
    have := pieces_get t c (s + 1) i (by simpa [pieces] using h)
    show (pieces t (s + 1) c)[i]'_ = _
    rw [this]
    have e : s + 1 + i = s + (i + 1) := by omega
    rw [e]

/-- The number of pieces. -/
theorem pieces_length {S : Shape} (t : ℕ → S.Idx → α) (c s : ℕ) : (pieces t s c).length = c := by
  induction c generalizing s with
  | zero => rfl
  | succ c ih => simp [pieces, ih]

/-- The first pieces of a list of pieces. -/
theorem pieces_take {S : Shape} (t : ℕ → S.Idx → α) : ∀ (c s i : ℕ), i ≤ c → (pieces t s c).take i = pieces t s i
  | c, s, 0, _ => by simp [pieces]
  | 0, s, i + 1, h => absurd h (by omega)
  | c + 1, s, i + 1, h => by simp [pieces, pieces_take t c (s + 1) i (by omega)]

/-- A stack read at an element. -/
theorem stack_apply {w m : ℕ} (t : ℕ → (S2 w m).Idx → α) (c : ℕ) (R : Fin (w * (c + 2))) (C : Fin m) (j : ℕ) (r : Fin w)
    (hR : R.val = w * j + r.val) : stack t c (ix2 R C) = t j (ix2 r C) := by
  have hj : j < c + 2 := by
    have := R.isLt
    by_contra hh
    have : w * (c + 2) ≤ w * j := Nat.mul_le_mul_left _ (by omega)
    omega
  unfold stack
  have hl : j < (pieces t 0 (c + 2)).length := by rw [pieces_length]; exact hj
  refine concatenate_apply_piece 0 _ (concat_rows t c) (ix2 R C) j hl (S2 w m) (t j) ?_ rfl (w * j) ?_ (ix2 r C) ?_ ?_
  · rw [pieces_get]; simp
  · rw [pieces_take _ _ _ _ (by omega), pieces_shapes]; simp [mul_comm]
  · intro b hb
    fin_cases b
    · exact absurd rfl hb
    · rfl
  · exact hR.symm

/-- The row of a one-row matrix, broadcast. -/
theorem bcast_apply {a b : ℕ} (v : (S2 1 b).Idx → α) (h : (S2 1 b).Broadcasts (S2 a b)) (i : Fin a) (j : Fin b) :
    broadcastTo (S2 a b) v h (ix2 i j) = v (ix2 0 j) := broadcastTo_1b_ab_apply v h i j

end Layout

/-! ### The scale row -/

/-- The kernel's lane numbering: every lane's group of 32. -/
theorem unit_eq : ∀ (r : Fin 8) (l : Fin 128), k0_pay431 (ix2 r l) = BitVec.ofNat 32 (l.val / 32) := by decide +kernel

/-- The group of 32 of a lane, in one row. -/
theorem unitRow_apply (l : Fin 128) : unitRow (ix2 0 l) = BitVec.ofNat 32 (l.val / 32) := by
  unfold unitRow
  rw [block_apply k0_pay431 _ (0 : Fin 1) l (0 : Fin 8) l rfl (by omega)]
  exact unit_eq 0 l

/-- The scale row of block `b` at a lane is the lane's unit's. -/
theorem scaleRow_apply (Q : ℕ → FVec Ideal (S2 1 128) .f32) (b : ℕ) (l : Fin 128) :
    scaleRow Q b (ix2 0 l) = Q (4 * b + l.val / 32) (ix2 0 l) := by
  have h : ∀ n : BitVec 32, cmpi .eq unitRow (broadcast (S2 1 128) n) (ix2 0 l) = BitVec.ofBool (BitVec.ofNat 32 (l.val / 32) == n) := by
    intro n
    show IntOp.cmpi .eq (unitRow (ix2 0 l)) n = _
    rw [unitRow_apply]; rfl
  have hl : l.val / 32 < 4 := by omega
  unfold scaleRow
  show Scalar.select (cmpi .eq unitRow (broadcast (S2 1 128) 3#32) (ix2 0 l)) _ (Scalar.select (cmpi .eq unitRow (broadcast (S2 1 128) 2#32) (ix2 0 l)) _
    (Scalar.select (cmpi .eq unitRow (broadcast (S2 1 128) 1#32) (ix2 0 l)) _ _)) = _
  rw [h, h, h]
  generalize l.val / 32 = u at hl
  interval_cases u <;> rfl

/-! ### The largest score and the sum -/

/-- A running maximum at an element. -/
theorem accum_max (t : ℕ → FVec Ideal (S2 32 128) .f32) (l : ℕ) (i : (S2 32 128).Idx) :
    accum maximumf t l i = (Finset.range (l + 1)).sup fun j => (t j i : EReal) := by
  induction l with
  | zero => simp [accum]
  | succ l ih =>
    rw [Finset.range_add_one, Finset.sup_insert, ← ih, sup_comm]
    rfl

/-- A running sum at an element. -/
theorem accum_add (t : ℕ → FVec Ideal (S2 32 128) .f32) (l : ℕ) (i : (S2 32 128).Idx) :
    accum addf t l i = ∑ j ∈ Finset.range (l + 1), (t j i : EReal) := by
  induction l with
  | zero => simp [accum]
  | succ l ih =>
    rw [Finset.sum_range_succ, ← ih]
    rfl

/-- A sum over rows and tiles is the sum over all keys. -/
theorem sum_tiles (f : ℕ → EReal) (n : ℕ) : ∑ r : Fin 32, ∑ j ∈ Finset.range n, f (32 * j + r.val) = ∑ k ∈ Finset.range (32 * n), f k := by
  induction n with
  | zero => simp
  | succ n ih =>
    rw [show 32 * (n + 1) = 32 * n + 32 by ring, Finset.sum_range_add, ← ih, Finset.sum_range (fun x => f (32 * n + x)), ← Finset.sum_add_distrib]
    exact Finset.sum_congr rfl fun r _ => Finset.sum_range_succ _ _

/-- A maximum over rows and tiles is the maximum over all keys. -/
theorem sup_tiles (f : ℕ → EReal) (n : ℕ) : (Finset.univ.sup fun r : Fin 32 => (Finset.range n).sup fun j => f (32 * j + r.val)) = (Finset.range (32 * n)).sup f := by
  apply le_antisymm
  · refine Finset.sup_le fun r _ => Finset.sup_le fun j hj => ?_
    have := Finset.mem_range.1 hj
    exact Finset.le_sup (f := f) (Finset.mem_range.2 (by omega))
  · refine Finset.sup_le fun k hk => ?_
    have := Finset.mem_range.1 hk
    have e : f k = f (32 * (k / 32) + (⟨k % 32, by omega⟩ : Fin 32).val) := by congr 1; show k = 32 * (k / 32) + k % 32; omega
    rw [e]
    exact (Finset.le_sup (f := fun j => f (32 * j + (⟨k % 32, by omega⟩ : Fin 32).val)) (s := Finset.range n) (b := k / 32) (Finset.mem_range.2 (by omega))).trans
      (Finset.le_sup (f := fun r : Fin 32 => (Finset.range n).sup fun j => f (32 * j + r.val)) (Finset.mem_univ _))

/-- The word of minus infinity. -/
theorem neg_inf : Ideal.ofBits .f32 0xFF800000#32 = ⊥ := by simp [Ideal.ofBits, Ideal.ieee]
/-- The word of plus infinity. -/
theorem pos_inf : Ideal.ofBits .f32 0x7F800000#32 = ⊤ := by simp [Ideal.ofBits, Ideal.ieee]
/-- The word of one. -/
theorem one_f32 : Ideal.ofBits .f32 0x3F800000#32 = 1 := by
  simp [Ideal.ofBits, Ideal.ieee]
  rw [← EReal.coe_mul]
  norm_num
/-- The word of zero. -/
theorem zero_bf16 : Ideal.ofBits .bf16 0#16 = 0 := by simp [Ideal.ofBits, Ideal.ieee]

/-- A tile's elements in one lane: tile `j`'s row `r` is number `32 * j + r` of `f`. -/
def Lane (t : ℕ → FVec Ideal (S2 32 128) .f32) (l : ℕ) (c : Fin 128) (f : ℕ → EReal) : Prop :=
  ∀ j, j ≤ l → ∀ r : Fin 32, t j (ix2 r c) = f (32 * j + r.val)

/-- The largest score of a lane. -/
theorem top_apply (t : ℕ → FVec Ideal (S2 32 128) .f32) (l : ℕ) (c : Fin 128) (f : ℕ → EReal) (h : Lane t l c f) :
    top t l (ix2 0 c) = (Finset.range (32 * (l + 1))).sup f := by
  unfold top
  rw [shapeCast_a_1a_apply, Ideal.multiReduction_maximumf_single, ← sup_tiles]
  show Finset.fold max (Ideal.ofBits .f32 0xFF800000#32) _ _ = _
  rw [neg_inf]
  show Finset.sup Finset.univ _ = _
  refine Finset.sup_congr rfl fun (r : Fin 32) _ => ?_
  show accum maximumf t l _ = _
  have e : ∀ h : Shape.Reduces (S2 32 128) [0] S128, h.lift (ix1 c) r = ix2 r c := fun h => funext fun a => Fin.ext (by fin_cases a <;> rfl)
  rw [e, accum_max]
  exact Finset.sup_congr rfl fun j hj => h j (by have := Finset.mem_range.1 hj; omega) r

/-- The sum of a lane over all keys. -/
theorem sum_apply (t : ℕ → FVec Ideal (S2 32 128) .f32) (l : ℕ) (c : Fin 128) (f : ℕ → EReal) (h : Lane t l c f)
    (hr : Shape.Reduces (S2 32 128) [0] S128) (hφ : FKind.Formats .f32) (hacc : 0#32 = FKind.add.neutral .f32 hφ) :
    multiReduction .add [0] S128 (accum addf t l) 0#32 hr hφ hacc (ix1 c) = ∑ k ∈ Finset.range (32 * (l + 1)), f k := by
  rw [Ideal.multiReduction_add_single, ← sum_tiles]
  refine Finset.sum_congr rfl fun (r : Fin 32) _ => ?_
  have e : hr.lift (ix1 c) r = ix2 r c := funext fun a => Fin.ext (by fin_cases a <;> rfl)
  rw [e, accum_add]
  exact Finset.sum_congr rfl fun j hj => h j (by have := Finset.mem_range.1 hj; omega) r

/-- The exponentials of a block's tiles are those of the lane's scores. -/
theorem expo_lane (t : ℕ → FVec Ideal (S2 32 128) .f32) (q : FVec Ideal (S2 1 128) .f32) (l : ℕ) (c : Fin 128) (f : ℕ → EReal) (h : Lane t l c f) :
    Lane (fun j => expo (t j) (top t l) q) l c (num f (q (ix2 0 c)) (32 * (l + 1))) := by
  intro j hj r
  show Ideal.exp2 ((t j (ix2 r c) - broadcastTo (S2 32 128) (top t l) _ (ix2 r c)) * broadcastTo (S2 32 128) q _ (ix2 r c)) = _
  rw [bcast_apply, bcast_apply, top_apply t l c f h, h j hj r]
  rfl

/-- One over the sum of a lane. -/
theorem recip_apply (e : ℕ → FVec Ideal (S2 32 128) .f32) (l : ℕ) (c : Fin 128) (f : ℕ → EReal) (h : Lane e l c f) :
    recip e l (ix2 0 c) = Ideal.div 1 (∑ k ∈ Finset.range (32 * (l + 1)), f k) := by
  unfold recip
  show Ideal.div (Ideal.ofBits .f32 0x3F800000#32) (shapeCast (S2 1 128) _ _ (ix2 0 c)) = _
  rw [one_f32, shapeCast_a_1a_apply, sum_apply e l c f h]

/-- The weights of a block: those of the lane's scores, zero past the last tile. -/
theorem weight_apply (t : ℕ → FVec Ideal (S2 32 128) .f32) (q : FVec Ideal (S2 1 128) .f32) (l : ℕ) (c : Fin 128) (f : ℕ → EReal) (h : Lane t l c f)
    (j : ℕ) (r : Fin 32) :
    weight t q l j (ix2 r c) = if j ≤ l then wt f (q (ix2 0 c)) (32 * (l + 1)) (32 * j + r.val) else 0 := by
  unfold weight
  by_cases hj : j ≤ l
  · rw [if_pos hj, show Nat.ble j l = true from Nat.ble_eq_true_of_le hj]
    show expo (t j) (top t l) q (ix2 r c) * broadcastTo (S2 32 128) (recip _ l) _ (ix2 r c) = _
    have he : expo (t j) (top t l) q (ix2 r c) = _ := expo_lane t q l c f h j hj r
    rw [bcast_apply, recip_apply _ l c _ (expo_lane t q l c f h), he]
    rfl
  · rw [if_neg hj, show Nat.ble j l = false from Bool.eq_false_iff.2 fun hh => hj (Nat.le_of_ble_eq_true hh)]
    exact zero_bf16

end Cert.KernelIdeal.Pair

end
-- ==== Proof.Expo.lean ====
/-
  The shared exponent of a block of codes, on one number: the field found bit by bit is the one the logarithm gives, and
  the power of two made from its bits is the exponential.
-/
module

public import Idealize.ShloMosaic.PureOps.Ideal
public import Mathlib.Analysis.SpecialFunctions.Log.Basic
public import Mathlib.Analysis.SpecialFunctions.Pow.Real

@[expose] public section

set_option maxRecDepth 16384

noncomputable section

namespace Cert.Expo

open Idealize.ShloMosaic

/-- The float made of the exponent field `n`. -/
def bits (n : BitVec 32) : EReal := Ideal.ofBits .f32 (IntOp.shli .vector n 23#32)

/-- One step of the search for the exponent field. -/
def step (y : EReal) (f d : BitVec 32) : BitVec 32 :=
  Scalar.select (Ideal.cmp .oge y (bits (IntOp.addi f d))) (IntOp.addi f d) f

/-- The exponent field, found bit by bit from the highest. -/
def field (y : EReal) : BitVec 32 :=
  step y (step y (step y (step y (step y (step y (step y (step y 0#32 128#32) 64#32) 32#32) 16#32) 8#32) 4#32) 2#32) 1#32

/-- The shared exponent from the field. -/
def expOf (f : BitVec 32) : BitVec 32 := Scalar.select (IntOp.cmpi .eq f 0#32) 0#32 (IntOp.subi f 126#32)

/-- Two to the minus exponent, from its bits. -/
def inv (e : BitVec 32) : EReal := bits (IntOp.subi 127#32 e)

/-- The shared exponent by the logarithm. -/
def expLog (y : EReal) : BitVec 32 :=
  Scalar.select (Ideal.cmp .olt y (Ideal.ofBits .f32 0x00800000#32)) 0#32
    (IntOp.addi (Ideal.fptosi 32 (Ideal.liftRound Int.floor (Ideal.div (Ideal.log y) ((Real.log 2 : ℝ) : EReal)))) 1#32)

/-- The power of two of the field `n`. -/
def pow (n : ℕ) : ℝ := (2 : ℝ) ^ ((n : ℤ) - 127)

/-- The float with exponent field `n` and all else 0: its sign, its field and its mantissa. -/
theorem bits_fields : ∀ n : ℕ, n < 256 →
    ((IntOp.shli .vector (BitVec.ofNat 32 n) 23#32).extractLsb' 31 1 = 0#1
    ∧ ((IntOp.shli .vector (BitVec.ofNat 32 n) 23#32).extractLsb' 23 8).toNat = n
    ∧ ((IntOp.shli .vector (BitVec.ofNat 32 n) 23#32).extractLsb' 0 23).toNat = 0) := by decide +kernel

/-- A field strictly between the ends is its power of two. -/
theorem bits_eq (n : ℕ) (h0 : 1 ≤ n) (h : n ≤ 254) : bits (BitVec.ofNat 32 n) = (pow n : EReal) := by
  obtain ⟨h1, h2, h3⟩ := bits_fields n (by omega)
  unfold bits pow
  show Ideal.ieee 8 23 _ = _
  unfold Ideal.ieee
  simp only [Nat.reduceAdd] at *
  rw [h1, h2, h3, if_neg (by omega), if_neg (by omega)]
  have e : ((n : ℤ) - (2 ^ (8 - 1) - 1) - ((23 : ℕ) : ℤ)) = ((n : ℤ) - 127) + (-23) := by norm_num; ring
  rw [e, zpow_add₀ (by norm_num)]
  refine congrArg _ ?_
  have h8 : (((2 ^ 23 + 0 : ℕ) : ℝ)) = 8388608 := by norm_num
  have h9 : (2 : ℝ) ^ (-23 : ℤ) = 1 / 8388608 := by norm_num
  rw [h8, h9]
  simp
  ring

/-- The largest field is plus infinity. -/
theorem bits_top : bits (BitVec.ofNat 32 255) = ⊤ := by
  obtain ⟨h1, h2, h3⟩ := bits_fields 255 (by omega)
  unfold bits Ideal.ofBits Ideal.ieee
  simp only [Nat.reduceAdd] at *
  rw [h1, h2, h3]; simp

/-- The powers of two grow with their field. -/
theorem pow_lt {m n : ℕ} (h : m < n) : pow m < pow n := zpow_lt_zpow_right₀ (by norm_num) (by omega)

/-- Under the largest power, a comparison with the field's float is one with the power. -/
theorem bits_le (r : ℝ) (hr : r < pow 247) (n : ℕ) (h0 : 1 ≤ n) (h : n ≤ 255) :
    bits (BitVec.ofNat 32 n) ≤ (r : EReal) ↔ pow n ≤ r := by
  by_cases h' : n = 255
  · subst h'
    rw [bits_top]
    have := pow_lt (show 247 < 255 by omega)
    constructor
    · intro h; simp at h
    · intro h; linarith
  · rw [bits_eq n h0 (by omega)]; exact EReal.coe_le_coe_iff

/-- One step halves the range of the field. -/
theorem step_spec (r : ℝ) (hr : r < pow 247) (n d : ℕ) (hd : 1 ≤ d) (hn : n + 2 * d ≤ 256)
    (h0 : n = 0 ∨ pow n ≤ r) (h1 : r < pow (n + 2 * d)) :
    ∃ n', step (r : EReal) (BitVec.ofNat 32 n) (BitVec.ofNat 32 d) = BitVec.ofNat 32 n' ∧ n' + d ≤ 256
      ∧ (n' = 0 ∨ pow n' ≤ r) ∧ r < pow (n' + d) := by
  have ha : IntOp.addi (BitVec.ofNat 32 n) (BitVec.ofNat 32 d) = BitVec.ofNat 32 (n + d) := by
    simp [IntOp.addi, BitVec.ofNat_add]
  by_cases hc : pow (n + d) ≤ r
  · refine ⟨n + d, ?_, by omega, Or.inr hc, by convert h1 using 2; omega⟩
    unfold step Ideal.cmp
    rw [ha]
    simp only [decide_eq_true ((bits_le r hr (n + d) (by omega) (by omega)).2 hc)]
    rfl
  · refine ⟨n, ?_, by omega, h0, lt_of_not_ge hc⟩
    unfold step Ideal.cmp
    rw [ha]
    simp only [decide_eq_false (fun h => hc ((bits_le r hr (n + d) (by omega) (by omega)).1 h))]
    rfl

/-- The field found is the one of the power of two under the number. -/
theorem field_spec (r : ℝ) (hr : r < pow 247) :
    ∃ n, field (r : EReal) = BitVec.ofNat 32 n ∧ n < 247 ∧ (n = 0 ∨ pow n ≤ r) ∧ r < pow (n + 1) := by
  have h256 : r < pow (0 + 2 * 128) := hr.trans (pow_lt (by omega))
  obtain ⟨a, ea, la, ha, ua⟩ := step_spec r hr 0 128 (by omega) (by omega) (Or.inl rfl) h256
  obtain ⟨b, eb, lb, hb, ub⟩ := step_spec r hr a 64 (by omega) (by omega) ha ua
  obtain ⟨c, ec, lc, hc, uc⟩ := step_spec r hr b 32 (by omega) (by omega) hb ub
  obtain ⟨d, ed, ld, hd, ud⟩ := step_spec r hr c 16 (by omega) (by omega) hc uc
  obtain ⟨e, ee, le, he, ue⟩ := step_spec r hr d 8 (by omega) (by omega) hd ud
  obtain ⟨f, ef, lf, hf, uf⟩ := step_spec r hr e 4 (by omega) (by omega) he ue
  obtain ⟨g, eg, lg, hg, ug⟩ := step_spec r hr f 2 (by omega) (by omega) hf uf
  obtain ⟨n, en, ln, hn, un⟩ := step_spec r hr g 1 (by omega) (by omega) hg ug
  refine ⟨n, ?_, ?_, hn, un⟩
  · unfold field; rw [ea, eb, ec, ed, ee, ef, eg, en]
  · by_contra hge
    rcases hn with h | h
    · omega
    · have : pow 247 ≤ pow n := by
        rcases Nat.lt_or_ge 247 n with h' | h'
        · exact (pow_lt h').le
        · rw [show n = 247 by omega]
      linarith

/-- For the fields in question the exponent as a word, as an integer, and its negative's field. -/
theorem words_eq : ∀ n : ℕ, n < 247 → 1 ≤ n →
    expOf (BitVec.ofNat 32 n) = IntOp.addi (BitVec.ofInt 32 ((n : ℤ) - 127)) 1#32
    ∧ (expOf (BitVec.ofNat 32 n)).toInt = (n : ℤ) - 126
    ∧ IntOp.subi 127#32 (expOf (BitVec.ofNat 32 n)) = BitVec.ofNat 32 (253 - n) := by decide +kernel

/-- The smallest normal number is the power of field 1. -/
theorem smallest : Ideal.ofBits .f32 0x00800000#32 = (pow 1 : EReal) := by
  rw [← bits_eq 1 (by omega) (by omega)]; rfl

/-- The floor of the base-two logarithm between two neighbouring powers. -/
theorem floor_log (r : ℝ) (n : ℕ) (h : pow n ≤ r) (h' : r < pow (n + 1)) : ⌊Real.log r * (Real.log 2)⁻¹⌋ = (n : ℤ) - 127 := by
  have h2 : 0 < Real.log 2 := Real.log_pos (by norm_num)
  have hp : ∀ m, 0 < pow m := fun m => zpow_pos (by norm_num) _
  have hl : ∀ m, Real.log (pow m) = (((m : ℤ) - 127 : ℤ) : ℝ) * Real.log 2 := fun m => Real.log_zpow 2 _
  rw [Int.floor_eq_iff, ← div_eq_mul_inv, le_div_iff₀ h2, div_lt_iff₀ h2]
  constructor
  · rw [← hl]; exact Real.log_le_log (hp n) h
  · have := Real.log_lt_log ((hp n).trans_le h) h'
    rw [hl] at this
    push_cast at this ⊢
    linarith

/-- The exponent found bit by bit is the one the logarithm gives, on every number from zero under the cap. -/
theorem expOf_field (r : ℝ) (h0 : 0 ≤ r) (hr : r < pow 247) : expOf (field (r : EReal)) = expLog (r : EReal) := by
  obtain ⟨n, en, ln, hn, un⟩ := field_spec r hr
  rw [en]
  unfold expLog Ideal.cmp
  rw [smallest]
  by_cases h : n = 0
  · subst h
    have hlt : (r : EReal) < (pow 1 : EReal) := EReal.coe_lt_coe_iff.2 un
    simp only [decide_eq_true hlt]
    rfl
  · have hge := hn.resolve_left h
    have h1 : pow 1 ≤ r := by
      rcases Nat.lt_or_ge 1 n with h' | h'
      · exact (pow_lt h').le.trans hge
      · rwa [show (1 : ℕ) = n by omega]
    have hlt : ¬ ((r : EReal) < (pow 1 : EReal)) := not_lt.2 (EReal.coe_le_coe_iff.2 h1)
    simp only [decide_eq_false hlt]
    have hpos : 0 < r := lt_of_lt_of_le (zpow_pos (by norm_num) _) hge
    have h2 : Real.log 2 ≠ 0 := (Real.log_pos (by norm_num)).ne'
    have hlog : Ideal.log (r : EReal) = (Real.log r : EReal) := by
      show (if r ≤ 0 then (⊥ : EReal) else (Real.log r : EReal)) = _
      rw [if_neg (not_le.2 hpos)]
    have hdiv : Ideal.div (Real.log r : EReal) ((Real.log 2 : ℝ) : EReal) = ((Real.log r * (Real.log 2)⁻¹ : ℝ) : EReal) := by
      unfold Ideal.div
      rw [if_neg (by exact_mod_cast h2)]
      rw [EReal.coe_mul, EReal.coe_inv]
    rw [hlog, hdiv, Ideal.liftRound_coe, floor_log r n hge un]
    have hi : Ideal.fptosi 32 ((((n : ℤ) - 127 : ℤ) : ℝ) : EReal) = BitVec.ofInt 32 ((n : ℤ) - 127) := by
      unfold Ideal.fptosi
      congr 1
      show max _ (min _ (if 0 ≤ (((n : ℤ) - 127 : ℤ) : ℝ) then ⌊(((n : ℤ) - 127 : ℤ) : ℝ)⌋ else ⌈(((n : ℤ) - 127 : ℤ) : ℝ)⌉)) = _
      rw [Int.floor_intCast, Int.ceil_intCast, ite_self]
      norm_num
      omega
    rw [hi]
    exact (words_eq n ln (by omega)).1

/-- The inverse scale from the bits is two to the minus exponent. -/
theorem inv_eq (r : ℝ) (hr : r < pow 247) :
    inv (expOf (field (r : EReal))) = Ideal.exp2 (0 - (((expOf (field (r : EReal))).toInt : ℝ) : EReal)) := by
  obtain ⟨n, en, ln, -, -⟩ := field_spec r hr
  rw [en]
  have hz : (0 : EReal) = ((0 : ℝ) : EReal) := rfl
  have hx : ∀ z : ℤ, Ideal.exp2 (0 - ((z : ℝ) : EReal)) = (((2 : ℝ) ^ (-z) : ℝ) : EReal) := by
    intro z
    rw [hz, ← EReal.coe_sub]
    show ((Real.rpow 2 (0 - (z : ℝ)) : ℝ) : EReal) = _
    rw [zero_sub]
    congr 1
    rw [← Real.rpow_intCast]; push_cast; rfl
  by_cases h : n = 0
  · subst h
    have : expOf (BitVec.ofNat 32 0) = 0#32 := by decide
    rw [this, hx]
    show bits (BitVec.ofNat 32 127) = _
    rw [bits_eq 127 (by omega) (by omega)]
    norm_num [pow]
  · obtain ⟨-, h2, h3⟩ := words_eq n ln (by omega)
    rw [h2, hx]
    unfold inv
    rw [h3, bits_eq (253 - n) (by omega) (by omega)]
    congr 1
    unfold pow
    congr 1
    omega

/-- The cap is under the largest power. -/
theorem cap_real : ∃ c : ℝ, Ideal.ofBits .f32 2064795940#32 = (c : EReal) ∧ 0 ≤ c ∧ c < pow 247 := by
  refine ⟨((2 ^ 23 + 1198372 : ℕ) : ℝ) * (2 : ℝ) ^ ((246 : ℤ) - 127 - 23), ?_, by positivity, ?_⟩
  · have h1 : (2064795940#32).extractLsb' 31 1 = 0#1 := by decide
    have h2 : ((2064795940#32).extractLsb' 23 8).toNat = 246 := by decide
    have h3 : ((2064795940#32).extractLsb' 0 23).toNat = 1198372 := by decide
    unfold Ideal.ofBits Ideal.ieee
    simp only [Nat.reduceAdd] at *
    rw [h1, h2, h3, if_neg (by omega), if_neg (by omega)]
    refine congrArg _ ?_
    norm_num
  · unfold pow
    norm_num

end Cert.Expo

end
-- ==== Proof.Codes.lean ====
/-
  The codes of a pair of blocks read at an element: the block maximum, the shared exponent, the code.
-/
module

public import proofs.«01_k».proof.Proof.Read
public import proofs.«01_k».proof.Proof.Expo

@[expose] public section

set_option maxRecDepth 16384

noncomputable section

namespace Cert.KernelIdeal.Pair

open Cert.KernelIdeal Cert.KernelIdeal.Gen
open Idealize.ShloMosaic Idealize.ShloMosaic.ValueIdx
open Idealize.ShloMosaic.TcCoe

/-! ### The block maxima -/

/-- One merging step on one lane's eight rows. -/
def mergeCol (d : ℕ) (x y : Fin 8 → EReal) (r : Fin 8) : EReal :=
  max (if r.val / d % 2 = 0 then x r else y r)
    (if (r.val + 8 - d) % 8 / d % 2 = 0 then y ⟨(r.val + 8 - d) % 8, Nat.mod_lt _ (by omega)⟩ else x ⟨(r.val + 8 - d) % 8, Nat.mod_lt _ (by omega)⟩)

/-- Where a bit of the row number is clear, for the three bits. -/
theorem clear_eq : ∀ (r : Fin 8) (l : Fin 128), bitClear 1#32 (ix2 r l) = BitVec.ofBool (r.val / 1 % 2 = 0)
    ∧ bitClear 2#32 (ix2 r l) = BitVec.ofBool (r.val / 2 % 2 = 0) ∧ bitClear 4#32 (ix2 r l) = BitVec.ofBool (r.val / 4 % 2 = 0) := by
  decide +kernel

/-- A selection by a decided proposition is an if. -/
theorem select_ofBool {α : Type} (p : Prop) [Decidable p] (a b : α) : Scalar.select (BitVec.ofBool (decide p)) a b = if p then a else b := by
  by_cases h : p
  · simp [h, Scalar.select]
  · simp [h, Scalar.select]

/-- One merging step at an element is the step on the column. -/
theorem merge_apply (D : BitVec 32) (d : ℕ) (hD : D.toNat = d) (hd : d < 8) (hb : ∀ (r : Fin 8) (l : Fin 128), bitClear D (ix2 r l) = BitVec.ofBool (r.val / d % 2 = 0))
    (x y : FVec Ideal (S2 8 128) .f32) (r : Fin 8) (l : Fin 128) :
    merge D x y (ix2 r l) = mergeCol d (fun r => x (ix2 r l)) (fun r => y (ix2 r l)) r := by
  unfold merge mergeCol
  show max (Scalar.select (bitClear D (ix2 r l)) (x (ix2 r l)) (y (ix2 r l))) (dynamicRotate 0 D none (select (bitClear D) y x) _ (ix2 r l)) = _
  rw [hb, select_ofBool, dynamicRotate_apply 0 D _ _ (ix2 r l) (ix2 (⟨(r.val + 8 - d) % 8, Nat.mod_lt _ (by omega)⟩ : Fin 8) l)
    (fun b => by
      fin_cases b
      · show (r.val + 8 - d) % 8 = (r.val + 8 - D.toNat % 8) % 8
        rw [hD, Nat.mod_eq_of_lt hd]
      · rfl)]
  congr 1
  show Scalar.select (bitClear D (ix2 _ l)) _ _ = _
  rw [hb, select_ofBool]

/-- Eight merged rows: row `r` is the largest of the rows of the `r`-th. -/
theorem mergeCol_all (M : Fin 8 → Fin 8 → EReal) (r : Fin 8) :
    mergeCol 4 (mergeCol 2 (mergeCol 1 (M 0) (M 1)) (mergeCol 1 (M 2) (M 3))) (mergeCol 2 (mergeCol 1 (M 4) (M 5)) (mergeCol 1 (M 6) (M 7))) r
      = Finset.univ.sup (M r) := by
  have up : ∀ {z : EReal} {a b c d e f g h : EReal}, a ≤ z → b ≤ z → c ≤ z → d ≤ z → e ≤ z → f ≤ z → g ≤ z → h ≤ z →
      max (max (max a b) (max c d)) (max (max e f) (max g h)) ≤ z := fun h1 h2 h3 h4 h5 h6 h7 h8 =>
    max_le (max_le (max_le h1 h2) (max_le h3 h4)) (max_le (max_le h5 h6) (max_le h7 h8))
  apply le_antisymm
  · fin_cases r <;>
    exact up (Finset.le_sup (f := M _) (Finset.mem_univ _)) (Finset.le_sup (f := M _) (Finset.mem_univ _)) (Finset.le_sup (f := M _) (Finset.mem_univ _)) (Finset.le_sup (f := M _) (Finset.mem_univ _))
      (Finset.le_sup (f := M _) (Finset.mem_univ _)) (Finset.le_sup (f := M _) (Finset.mem_univ _)) (Finset.le_sup (f := M _) (Finset.mem_univ _)) (Finset.le_sup (f := M _) (Finset.mem_univ _))
  · refine Finset.sup_le fun i _ => ?_
    have lo : ∀ {a b c d e f g h : EReal} {z : EReal}, z = a ∨ z = b ∨ z = c ∨ z = d ∨ z = e ∨ z = f ∨ z = g ∨ z = h →
        z ≤ max (max (max a b) (max c d)) (max (max e f) (max g h)) := by
      intro a b c d e f g h z hz
      rcases hz with h | h | h | h | h | h | h | h <;> rw [h] <;> simp only [le_max_iff, le_refl, true_or, or_true]
    fin_cases r <;> fin_cases i <;>
    first
    | exact lo (Or.inl rfl)
    | exact lo (Or.inr (Or.inl rfl))
    | exact lo (Or.inr (Or.inr (Or.inl rfl)))
    | exact lo (Or.inr (Or.inr (Or.inr (Or.inl rfl))))
    | exact lo (Or.inr (Or.inr (Or.inr (Or.inr (Or.inl rfl)))))
    | exact lo (Or.inr (Or.inr (Or.inr (Or.inr (Or.inr (Or.inl rfl))))))
    | exact lo (Or.inr (Or.inr (Or.inr (Or.inr (Or.inr (Or.inr (Or.inl rfl)))))))
    | exact lo (Or.inr (Or.inr (Or.inr (Or.inr (Or.inr (Or.inr (Or.inr rfl)))))))

/-- Eight matrices merged: row `r` holds the largest number of the lane in matrix `r`. -/
theorem merged_apply (M : ℕ → FVec Ideal (S2 8 128) .f32) (r : Fin 8) (l : Fin 128) :
    merged M (ix2 r l) = Finset.univ.sup fun i : Fin 8 => (M r.val (ix2 i l) : EReal) := by
  have h1 := merge_apply 1#32 1 rfl (by omega) (fun r l => (clear_eq r l).1)
  have h2 := merge_apply 2#32 2 rfl (by omega) (fun r l => (clear_eq r l).2.1)
  have h4 := merge_apply 4#32 4 rfl (by omega) (fun r l => (clear_eq r l).2.2)
  unfold merged
  rw [h4]
  simp only [h2, h1]
  exact mergeCol_all (fun a i => M a.val (ix2 i l)) r

/-- Eight rows of a tile at an element. -/
theorem oct_apply (x : (S2 32 128).Idx → EReal) (r : ℕ) (hr : r < 4) (i : Fin 8) (l : Fin 128) :
    oct x r (ix2 i l) = x (ix2 (⟨8 * r + i.val, by omega⟩ : Fin 32) l) :=
  block_apply x _ i l _ l (by show 8 * r + i.val = 8 * (r % 4) + i.val; omega) (by omega)

/-- The magnitude. -/
def mag (x : EReal) : EReal := max x (-x)

/-- The largest magnitude over the four groups of eight rows, at an element. -/
theorem max8_apply (t : FVec Ideal (S2 32 128) .f32) (i : Fin 8) (l : Fin 128) :
    max8 t (ix2 i l) = Finset.univ.sup fun c : Fin 4 => mag (t (ix2 (⟨8 * c.val + i.val, by omega⟩ : Fin 32) l)) := by
  have e : ∀ f : Fin 4 → EReal, Finset.univ.sup f = max (max (f 0) (f 1)) (max (f 2) (f 3)) := by
    intro f
    rw [show (Finset.univ : Finset (Fin 4)) = {0, 1, 2, 3} from rfl]
    simp only [Finset.sup_insert, Finset.sup_singleton]
    ac_rfl
  rw [e]
  show max (max (oct (absf t) 0 (ix2 i l)) (oct (absf t) 1 (ix2 i l))) (max (oct (absf t) 2 (ix2 i l)) (oct (absf t) 3 (ix2 i l))) = _
  have h : ∀ r (hr : r < 4), oct (absf t) r (ix2 i l) = mag (t (ix2 (⟨8 * r + i.val, by omega⟩ : Fin 32) l)) := fun r hr => by
    rw [oct_apply (absf t) r hr i l]; rfl
  rw [h 0 (by omega), h 1 (by omega), h 2 (by omega), h 3 (by omega)]
  rfl

/-- The largest over eight of the largest over four is the largest over all 32. -/
theorem sup_rows (f : Fin 32 → EReal) : (Finset.univ.sup fun i : Fin 8 => Finset.univ.sup fun c : Fin 4 => f ⟨8 * c.val + i.val, by omega⟩) = Finset.univ.sup f := by
  apply le_antisymm
  · exact Finset.sup_le fun i _ => Finset.sup_le fun c _ => Finset.le_sup (Finset.mem_univ _)
  · refine Finset.sup_le fun k _ => ?_
    have e : f k = f ⟨8 * (⟨k.val / 8, by omega⟩ : Fin 4).val + (⟨k.val % 8, by omega⟩ : Fin 8).val, by show 8 * (k.val / 8) + k.val % 8 < 32; omega⟩ := by
      congr 1; exact Fin.ext (by show k.val = 8 * (k.val / 8) + k.val % 8; omega)
    rw [e]
    exact (Finset.le_sup (f := fun c : Fin 4 => f ⟨8 * c.val + (⟨k.val % 8, by omega⟩ : Fin 8).val, by omega⟩) (Finset.mem_univ (⟨k.val / 8, by omega⟩ : Fin 4))).trans
      (Finset.le_sup (f := fun i : Fin 8 => Finset.univ.sup fun c : Fin 4 => f ⟨8 * c.val + i.val, by omega⟩) (Finset.mem_univ (⟨k.val % 8, by omega⟩ : Fin 8)))

/-! ### The exponent and the code of one number -/

/-- The largest magnitude of a block, scaled to the code range and capped. -/
def peak (o : Fin 32 → EReal) : EReal :=
  min ((Finset.univ.sup fun i => mag (o i)) * Ideal.ofBits .f32 991054117#32) (Ideal.ofBits .f32 2064795940#32)

/-- The shared exponent of a block. -/
def expo8 (o : Fin 32 → EReal) : BitVec 32 := Expo.expOf (Expo.field (peak o))

/-- The code of one number under a shared exponent. -/
def code (x : EReal) (e : BitVec 32) : EReal :=
  min (Ideal.ofBits .f32 1138753536#32) (max (Ideal.ofBits .f32 3286237184#32) (x * Expo.inv e))

/-- Over the extended reals a change of float format changes nothing. -/
theorem truncf_at {s : Shape} (x : FVec Ideal s .f32) (h) (i : s.Idx) : truncf .fp8e4m3 x h i = x i := rfl

/-- One step of the search for the exponent field, at an element. -/
theorem step_at (y : FVec Ideal (S2 8 128) .f32) (f : IVec (S2 8 128) 32) (d : BitVec 32) (i : (S2 8 128).Idx) :
    step y f d i = Expo.step (y i) (f i) d := rfl

/-- The exponent field, at an element. -/
theorem field_at (y : FVec Ideal (S2 8 128) .f32) (i : (S2 8 128).Idx) : field y i = Expo.field (y i) := by
  unfold field Expo.field
  simp only [step_at]
  rfl

/-- The exponent out of its field, at an element. -/
theorem expOf_at (f : IVec (S2 8 128) 32) (i : (S2 8 128).Idx) : expOf f i = Expo.expOf (f i) := rfl

variable {k : ℕ}

/-- The exponents at an element: the shared exponent of the 32 outputs of the row's block. -/
theorem exps_apply (o : FVec Ideal (S2 (32 * (3 + 1)) (128 * (k + 1))) .f32) (r : Fin 8) (l : Fin 128) (C : Fin (128 * (k + 1)))
    (hC : C.val = 128 * (r.val / 4 % (k + 1)) + l.val) :
    exps o (ix2 r l) = expo8 fun i => o (ix2 ⟨32 * (r.val % 4) + i.val, by omega⟩ C) := by
  have h : scaled (fun r => max8 (tile (n := 3) o (r % 4) (r / 4))) (ix2 r l) = peak fun i => o (ix2 ⟨32 * (r.val % 4) + i.val, by omega⟩ C) := by
    unfold scaled peak
    show min (merged (fun r => max8 (tile (n := 3) o (r % 4) (r / 4))) (ix2 r l) * Ideal.ofBits .f32 991054117#32)
      (Ideal.ofBits .f32 2064795940#32) = _
    rw [merged_apply]
    simp only [max8_apply]
    rw [sup_rows (fun i => mag (tile (n := 3) o (r.val % 4) (r.val / 4) (ix2 i l)))]
    have ht : ∀ i : Fin 32, tile (n := 3) o (r.val % 4) (r.val / 4) (ix2 i l) = o (ix2 ⟨32 * (r.val % 4) + i.val, by omega⟩ C) := fun i =>
      tile_apply (n := 3) o (r.val % 4) (r.val / 4) i l ⟨32 * (r.val % 4) + i.val, by omega⟩ C
        (by show 32 * (r.val % 4) + i.val = 32 * (r.val % 4 % 4) + i.val; omega) hC
    simp only [ht]
  unfold exps
  rw [expOf_at, field_at, h]
  rfl

/-- One of eight rows at an element. -/
theorem row8_apply (x : (S2 8 128).Idx → EReal) (r : ℕ) (hr : r < 8) (l : Fin 128) : row8 x r (ix2 0 l) = x (ix2 (⟨r, hr⟩ : Fin 8) l) :=
  block_apply x _ 0 l _ l (by show r = r % 8 + 0; omega) (by omega)

/-- A tile scaled by its row and clipped is, at an element, the code under the row's exponent. -/
theorem clip_apply (t : FVec Ideal (S2 32 128) .f32) (r : FVec Ideal (S2 1 128) .f32) (i : Fin 32) (l : Fin 128) (e : BitVec 32)
    (h : r (ix2 0 l) = Expo.inv e) : clip t r (ix2 i l) = code (t (ix2 i l)) e := by
  unfold clip code
  show min _ (max _ (t (ix2 i l) * broadcastTo (S2 32 128) r _ (ix2 i l))) = _
  rw [bcast_apply, h]
  rfl

/-- A stored piece at an element: the code of the output under its block's exponent. -/
theorem piece_apply (o : FVec Ideal (S2 (32 * (3 + 1)) (128 * (k + 1))) .f32) (c r : ℕ) (hc : c < k + 1) (hk : k ≤ 1) (hr : r < 4) (q : Fin 32) (d : Fin 128)
    (C : Fin (128 * (k + 1))) (hC : C.val = 128 * c + (32 * r + q.val)) :
    piece o c r (ix3 0 q d) = code (o (ix2 d C)) (expo8 fun i => o (ix2 ⟨32 * (d.val / 32) + i.val, by omega⟩ C)) := by
  have hd := d.isLt
  have hq := q.isLt
  unfold piece
  rw [shapeCast_ab_1ab_apply, tile_apply (n := 3) (k := 0) _ r 0 q d ⟨32 * r + q.val, by omega⟩ d (by show 32 * r + q.val = 32 * (r % 4) + q.val; omega) (by simp)]
  unfold codes
  rw [truncf_at]
  refine (transpose_ix2_apply (a := 128) (b := 128) _ _ ⟨32 * r + q.val, by omega⟩ d).trans ?_
  rw [stack_apply (w := 32) _ 2 d ⟨32 * r + q.val, by omega⟩ (d.val / 32) ⟨d.val % 32, by omega⟩ (by show d.val = 32 * (d.val / 32) + d.val % 32; omega)]
  have he : row8 (invScale (F := Ideal) (exps o)) (4 * c + d.val / 32) (ix2 0 ⟨32 * r + q.val, by omega⟩)
      = Expo.inv (expo8 fun i => o (ix2 ⟨32 * (d.val / 32) + i.val, by omega⟩ C)) := by
    rw [row8_apply _ _ (by omega)]
    show Expo.inv (exps o (ix2 _ _)) = _
    rw [exps_apply o _ _ C (by show C.val = 128 * ((4 * c + d.val / 32) / 4 % (k + 1)) + (32 * r + q.val); rw [show (4 * c + d.val / 32) / 4 = c by omega, Nat.mod_eq_of_lt hc, hC])]
    congr 2
    funext i
    congr 2
    exact Fin.ext (by show 32 * ((4 * c + d.val / 32) % 4) + i.val = 32 * (d.val / 32) + i.val; omega)
  rw [clip_apply _ _ _ _ _ he, tile_apply (n := 3) o (d.val / 32) c _ _ d C (by show d.val = 32 * (d.val / 32 % 4) + d.val % 32; omega)
    (by rw [Nat.mod_eq_of_lt hc, hC])]

end Cert.KernelIdeal.Pair

end
-- ==== Proof.Out.lean ====
/-
  The output of a pair of blocks read at an element: the values weighted by the lane's weights.
-/
module

public import proofs.«01_k».proof.Proof.Read

@[expose] public section

set_option maxRecDepth 16384

noncomputable section

namespace Cert.KernelIdeal.Pair

open Cert.KernelIdeal Cert.KernelIdeal.Gen Cert.Soft
open Idealize.ShloMosaic Idealize.ShloMosaic.ValueIdx
open Idealize.ShloMosaic.TcCoe

/-- The position of the query at a lane of block `b`. -/
def pos (b l : ℕ) : ℕ := 32 * ((4 * b + l / 32) / 5) + l % 32

/-- Every query of block `b` lies before the end of the block's last tile of keys. -/
theorem pos_lt (b l : ℕ) (hl : l < 128) : pos b l < 32 * (lastTile b + 1) := by unfold pos lastTile; omega

variable {n k : ℕ}

/-- The masked scores of a lane. -/
theorem score_lane (S : FVec Ideal (S2 (32 * (n + 2)) (128 * (k + 1))) .f32) (ks : FVec Ideal (S2 (32 * (19 + 1)) (128 * (0 + 1))) .f32)
    (bias : ℕ → ℕ → FVec Ideal (S2 32 128) .f32) (b c : ℕ) (l : Fin 128) (C : Fin (128 * (k + 1))) (hC : C.val = 128 * (c % (k + 1)) + l.val)
    (hb : lastTile b ≤ n + 1) (hn : n ≤ 18) (sf kf : ℕ → EReal)
    (hS : ∀ R : Fin (32 * (n + 2)), S (ix2 R C) = sf R.val) (hk : ∀ R : Fin 640, ks (ix2 R l) = kf R.val)
    (hm : ∀ j (r : Fin 32), j < 2 → bias (b % 5) j (ix2 r l) = if 32 * (4 * b / 5 + j) + r.val ≤ pos b l.val then ⊤ else ⊥) :
    Lane (score S ks bias b c) (lastTile b) l (masked (pos b l.val) fun k => sf k * kf k) := by
  intro j hj r
  have hl := l.isLt
  have hr := r.isLt
  have h1 : tile (n := n + 1) S j c (ix2 r l) = sf (32 * j + r.val) := by
    rw [tile_apply S j c r l ⟨32 * j + r.val, by omega⟩ C (by show _ = 32 * (j % (n + 2)) + _; rw [Nat.mod_eq_of_lt (by omega)]) hC, hS]
  have h2 : tile ks j 0 (ix2 r l) = kf (32 * j + r.val) := by
    rw [tile_apply ks j 0 r l ⟨32 * j + r.val, by omega⟩ l (by show _ = 32 * (j % 20) + _; rw [Nat.mod_eq_of_lt (by omega)]) (by simp)]
    exact hk ⟨32 * j + r.val, by omega⟩
  have h3 : mulf (tile (n := n + 1) S j c) (tile ks j 0) (ix2 r l) = sf (32 * j + r.val) * kf (32 * j + r.val) := by
    show tile (n := n + 1) S j c (ix2 r l) * tile ks j 0 (ix2 r l) = _
    rw [h1, h2]
  unfold score masked
  by_cases hlo : 4 * b / 5 ≤ j
  · rw [show Nat.ble (4 * b / 5) j = true from Nat.ble_eq_true_of_le hlo]
    show min (mulf (tile (n := n + 1) S j c) (tile ks j 0) (ix2 r l)) (bias (b % 5) (j - 4 * b / 5) (ix2 r l)) = _
    rw [h3, hm _ r (by unfold lastTile at hj; omega), show 4 * b / 5 + (j - 4 * b / 5) = j by omega]
    split
    · exact min_eq_left le_top
    · exact min_eq_right bot_le
  · rw [show Nat.ble (4 * b / 5) j = false from Bool.eq_false_iff.2 fun hh => hlo (Nat.le_of_ble_eq_true hh)]
    show mulf (tile (n := n + 1) S j c) (tile ks j 0) (ix2 r l) = _
    rw [h3, if_pos (by unfold pos; omega)]

/-- The weighted sum over a block's stacked weights is the one over all keys. -/
theorem weights_sum (t : ℕ → FVec Ideal (S2 32 128) .f32) (q : FVec Ideal (S2 1 128) .f32) (b : ℕ) (l : Fin 128) (a : ℕ → EReal) (x : EReal)
    (hq : 0 < x) (hx : q (ix2 0 l) = x) (hb : lastTile b ≤ n + 1) (hn : n ≤ 18) (vf : ℕ → EReal)
    (h : Lane t (lastTile b) l (masked (pos b l.val) a)) :
    ∑ R : Fin (32 * (n + 2)), vf R.val * stack (weight t q (lastTile b)) n (ix2 R l)
      = ∑ k ∈ Finset.range 640, vf k * wt (masked (pos b l.val) a) x 640 k := by
  have hp := pos_lt b l.val l.isLt
  have e : ∀ R : Fin (32 * (n + 2)), stack (weight t q (lastTile b)) n (ix2 R l) = wt (masked (pos b l.val) a) x 640 R.val := by
    intro R
    rw [stack_apply _ n R l (R.val / 32) ⟨R.val % 32, by omega⟩ (by show R.val = 32 * (R.val / 32) + R.val % 32; omega),
      weight_apply t q _ l _ h, hx]
    have e32 : 32 * (R.val / 32) + R.val % 32 = R.val := by omega
    show (if R.val / 32 ≤ lastTile b then wt (masked (pos b l.val) a) x (32 * (lastTile b + 1)) (32 * (R.val / 32) + R.val % 32) else 0) = _
    rw [e32]
    split
    · exact wt_ext _ a x hq hp (by omega) _
    · exact (wt_zero _ a x hq 640 _ (by omega)).symm
  rw [Finset.sum_congr rfl fun R _ => by rw [e R], ← Finset.sum_range (fun k => vf k * wt (masked (pos b l.val) a) x 640 k)]
  refine Finset.sum_subset (Finset.range_mono (by omega)) fun k _ hk => ?_
  have : ¬ k < 32 * (n + 2) := fun hh => hk (Finset.mem_range.2 hh)
  rw [wt_zero _ a x hq 640 k (by omega), mul_zero]

/-- What a lane of block `b` works with: keys `kf`, its query `xf`, key scales `sf`, query scale `x`, and one row `vf` of values. -/
structure Given {N : ℕ} (b : ℕ) (l : Fin 128) (K : FVec Ideal (S2 N 128) .fp8e4m3) (X : ℕ → FVec Ideal (S2 32 128) .fp8e4m3)
    (ks : FVec Ideal (S2 (32 * (19 + 1)) (128 * (0 + 1))) .f32) (bias : ℕ → ℕ → FVec Ideal (S2 32 128) .f32)
    (Q : ℕ → FVec Ideal (S2 1 128) .f32) (V : FVec Ideal (S2 128 N) .bf16) (d : Fin 128)
    (kf : ℕ → Fin 128 → EReal) (xf : Fin 128 → EReal) (sf : ℕ → EReal) (x : EReal) (vf : ℕ → EReal) : Prop where
  hK : ∀ (R : Fin N) e, K (ix2 R e) = kf R.val e
  hX : ∀ e, X (4 * b + l.val / 32) (ix2 ⟨l.val % 32, by omega⟩ e) = xf e
  hs : ∀ R : Fin 640, ks (ix2 R l) = sf R.val
  hm : ∀ j (r : Fin 32), j < 2 → bias (b % 5) j (ix2 r l) = if 32 * (4 * b / 5 + j) + r.val ≤ pos b l.val then ⊤ else ⊥
  hQ : Q (4 * b + l.val / 32) (ix2 0 l) = x
  hV : ∀ R : Fin N, V (ix2 d R) = vf R.val

/-- The output at a lane. -/
def att (b l : ℕ) (kf : ℕ → Fin 128 → EReal) (xf : Fin 128 → EReal) (sf : ℕ → EReal) (x : EReal) (vf : ℕ → EReal) : EReal :=
  ∑ k ∈ Finset.range 640, vf k * wt (masked (pos b l) fun k => (∑ e : Fin 128, kf k e * xf e) * sf k) x 640 k

/-- The output of a pair of blocks at an element is the attention output out of the numbers it was given. -/
theorem outPair_apply (p : ℕ) (K : FVec Ideal (S2 (32 * (n + 2)) 128) .fp8e4m3) (X : ℕ → FVec Ideal (S2 32 128) .fp8e4m3)
    (ks : FVec Ideal (S2 (32 * (19 + 1)) (128 * (0 + 1))) .f32) (bias : ℕ → ℕ → FVec Ideal (S2 32 128) .f32)
    (Q : ℕ → FVec Ideal (S2 1 128) .f32) (V : FVec Ideal (S2 128 (32 * (n + 2))) .bf16) (c : ℕ) (hc : c < 2) (l d : Fin 128)
    (kf : ℕ → Fin 128 → EReal) (xf : Fin 128 → EReal) (sf : ℕ → EReal) (x : EReal) (vf : ℕ → EReal)
    (hb : lastTile (2 * p + c) ≤ n + 1) (hn : n ≤ 18) (hx : 0 < x)
    (h : Given (2 * p + c) l K X ks bias Q V d kf xf sf x vf) (C : Fin 256) (hC : C.val = 128 * c + l.val) :
    outPair p K X ks bias Q V (ix2 d C) = att (2 * p + c) l.val kf xf sf x vf := by
  have hl := l.isLt
  have hS : ∀ R : Fin (32 * (n + 2)), matmul (DotDims.transposedRhs (32 * (n + 2)) 128 256) none K
      (stack (fun u => X (8 * p + u)) 6 : FVec Ideal (S2 256 128) .fp8e4m3) (constant (S2 (32 * (n + 2)) 256) .f32 0#32) (ix2 R C)
      = ∑ e : Fin 128, kf R.val e * xf e := by
    intro R
    refine (Ideal.matmul_transposedRhs_apply none _ _ _ R C).trans ?_
    show Ideal.ofBits .f32 0#32 + _ = _
    rw [Ideal.ofBits_zero_f32, zero_add]
    refine Finset.sum_congr rfl fun e _ => ?_
    rw [h.hK, stack_apply (fun u => X (8 * p + u)) 6 C e (4 * c + l.val / 32) ⟨l.val % 32, by omega⟩
      (by show C.val = 32 * (4 * c + l.val / 32) + l.val % 32; omega), show 8 * p + (4 * c + l.val / 32) = 4 * (2 * p + c) + l.val / 32 by ring, h.hX]
  unfold outPair
  refine (Ideal.matmul_plain_apply none _ _ _ d C).trans ?_
  show Ideal.ofBits .f32 0#32 + _ = _
  rw [Ideal.ofBits_zero_f32, zero_add]
  have key : ∀ (S : FVec Ideal (S2 (32 * (n + 2)) (128 * (1 + 1))) .f32)
      (_ : ∀ R : Fin (32 * (n + 2)), S (ix2 R (C : Fin (128 * (1 + 1)))) = ∑ e : Fin 128, kf R.val e * xf e) (c' : ℕ), c' = c →
      ∑ R : Fin (32 * (n + 2)), vf R.val * stack (weight (score S ks bias (2 * p + c') c')
        (scaleRow Q (2 * p + c')) (lastTile (2 * p + c'))) n (ix2 R l) = att (2 * p + c) l.val kf xf sf x vf := by
    rintro S hS' c' rfl
    exact weights_sum _ _ (2 * p + c') l _ x hx ((scaleRow_apply Q _ l).trans h.hQ) hb hn vf
      (score_lane S ks bias (2 * p + c') c' l C (by rw [hC, Nat.mod_eq_of_lt hc]) hb hn _ sf hS' h.hs h.hm)
  rcases (by omega : c = 0 ∨ c = 1) with e | e
  · refine Eq.trans ?_ (key _ hS 0 e.symm)
    refine Finset.sum_congr rfl fun R _ => ?_
    rw [h.hV, concatenate_pair_apply_left (s₁ := S2 (32 * (n + 2)) 128) (s₂ := S2 (32 * (n + 2)) 128) 1 _ _ _ (ix2 R C) rfl (ix2 R l)
      (fun b => by fin_cases b; exacts [rfl, by show l.val = C.val; omega])]
    rfl
  · refine Eq.trans ?_ (key _ hS 1 e.symm)
    refine Finset.sum_congr rfl fun R _ => ?_
    rw [h.hV, concatenate_pair_apply_right (s₁ := S2 (32 * (n + 2)) 128) (s₂ := S2 (32 * (n + 2)) 128) 1 _ _ _ (ix2 R C) rfl rfl (ix2 R l)
      (fun b hb => by fin_cases b; exacts [rfl, absurd rfl hb]) (by show l.val + 128 = C.val; omega)]

/-- The output of the last block at an element is the attention output out of the numbers it was given. -/
theorem outLast_apply (K : FVec Ideal (S2 640 128) .fp8e4m3) (X : ℕ → FVec Ideal (S2 32 128) .fp8e4m3)
    (ks : FVec Ideal (S2 (32 * (19 + 1)) (128 * (0 + 1))) .f32) (bias : ℕ → ℕ → FVec Ideal (S2 32 128) .f32)
    (Q : ℕ → FVec Ideal (S2 1 128) .f32) (V : FVec Ideal (S2 128 640) .bf16) (l d : Fin 128)
    (kf : ℕ → Fin 128 → EReal) (xf : Fin 128 → EReal) (sf : ℕ → EReal) (x : EReal) (vf : ℕ → EReal) (hx : 0 < x)
    (h : Given 24 l K X ks bias Q V d kf xf sf x vf) :
    outLast K X ks bias Q V (ix2 d l) = att 24 l.val kf xf sf x vf := by
  have hl := l.isLt
  have hS : ∀ R : Fin (32 * (18 + 2)), matmul (DotDims.transposedRhs 640 128 128) none K
      (stack (fun u => X (96 + u)) 2 : FVec Ideal (S2 128 128) .fp8e4m3) (constant (S2 640 128) .f32 0#32) (ix2 R l)
      = ∑ e : Fin 128, kf R.val e * xf e := by
    intro R
    refine (Ideal.matmul_transposedRhs_apply none _ _ _ R l).trans ?_
    show Ideal.ofBits .f32 0#32 + _ = _
    rw [Ideal.ofBits_zero_f32, zero_add]
    refine Finset.sum_congr rfl fun e _ => ?_
    rw [h.hK, stack_apply (fun u => X (96 + u)) 2 l e (l.val / 32) ⟨l.val % 32, by omega⟩
      (by show l.val = 32 * (l.val / 32) + l.val % 32; omega)]
    exact congrArg _ (h.hX e)
  unfold outLast
  refine (Ideal.matmul_plain_apply none _ _ _ d l).trans ?_
  show Ideal.ofBits .f32 0#32 + _ = _
  rw [Ideal.ofBits_zero_f32, zero_add]
  refine Eq.trans ?_ (weights_sum (n := 18) _ _ 24 l _ x hx ((scaleRow_apply Q _ l).trans h.hQ) (by decide) (by omega) vf
      (score_lane (k := 0) _ ks bias 24 0 l l (by simp) (by decide) (by omega) _ sf hS h.hs h.hm))
  refine Finset.sum_congr rfl fun R _ => ?_
  rw [h.hV]

end Cert.KernelIdeal.Pair

end
-- ==== Proof.Ready.lean ====
/-
  What the scratch buffers hold while the body computes: the query scales rotated into lanes, the key and value scales one
  head a row, and the mask.
-/
module

public import proofs.«01_k».proof.Proof.Prologue
public import proofs.«01_k».proof.Proof.Codes
public import proofs.«01_k».proof.Proof.Out

@[expose] public section

set_option maxRecDepth 16384

noncomputable section

namespace Cert.KernelIdeal.Body

open Cert.KernelIdeal Cert.KernelIdeal.Gen Cert.KernelIdeal.Pair Cert.Soft
open Idealize.ShloMosaic Idealize.ShloMosaic.ValueIdx
open Idealize.ShloMosaic.TcCoe

/-! ### Reading a list of stores, and a load -/

/-- What a list of stores consists of. -/
theorem mem_listOf {Val : EltTy → Type} {S : Shape} {e : EltTy} (P : ℕ → View.Piece Val S e) (n : ℕ) (p : View.Piece Val S e) :
    p ∈ listOf P n ↔ ∃ t, t < n ∧ p = P t := by
  induction n with
  | zero => simp [listOf]
  | succ n ih =>
    show p ∈ P n :: listOf P n ↔ _
    rw [List.mem_cons, ih]
    constructor
    · rintro (h | ⟨t, ht, h⟩)
      · exact ⟨n, Nat.lt_succ_self n, h⟩
      · exact ⟨t, Nat.lt_succ_of_lt ht, h⟩
    · rintro ⟨t, ht, h⟩
      rcases Nat.lt_succ_iff_lt_or_eq.1 ht with h' | h'
      · exact Or.inr ⟨t, h', h⟩
      · exact Or.inl (h' ▸ h)

/-- Stores that all agree with one function read as that function where one of them stores. -/
theorem read_listOf {Val : EltTy → Type} {κ : Kind} {sp : Space} {S : Shape} {e : EltTy} (v : View sig κ sp S e) (f : v.ty.Contents Val)
    (P : ℕ → View.Piece Val S e) (n : ℕ) (G : S.Idx → Val e) (hG : ∀ t, t < n → ∀ x : (P t).1.shape.Idx, (P t).2 x = G ((P t).1.emb x))
    (y : S.Idx) (t : ℕ) (ht : t < n) (x : (P t).1.shape.Idx) (hx : (P t).1.emb x = y) : v.read Val (v.writes Val f (listOf P n)) y = G y := by
  refine View.read_writes_apply_of_pieces v f G _ (fun p hp => ?_) y ⟨P t, (mem_listOf P n _).2 ⟨t, ht, rfl⟩, ?_⟩
  · obtain ⟨t', ht', rfl⟩ := (mem_listOf P n p).1 hp
    exact hG t' ht'
  · rw [← hx]; exact LoadRect.idx_mem (P t).1.toLoadRect x

variable {c : Dev nD}

/-- A load read at an element. -/
theorem load_apply {S : Shape} {e : EltTy} (M : Memref sig .tc .vmem S e) (f : Bf (F := Ideal) c M) (off size : Fin S.rank → ℕ) (inb)
    (x : (Rect.unit (s := S) off size inb).shape.Idx) (y : S.Idx) (h : ∀ a, (y a).val = off a + (x a).val) :
    M.view.readAt (Elt Ideal) (Rect.unit off size inb : Rect S).toLoadRect f x = M.view.read (Elt Ideal) f y :=
  congrArg (M.view.read (Elt Ideal) f) (Rect.emb_eq_of_coords _ x y fun a => by rw [h]; show _ = off a + 1 * (x a).val; omega)

/-! ### The grid point -/

/-- The condition of the first part of the body: the key head is 0. -/
theorem first_iff : ∀ i : grid0.Coords, bodyRun.sl.v2 i = 1#1 ↔ (i 1).val = 0 := by decide +kernel
/-- The offset of the key head's row. -/
theorem off1_val : ∀ i : grid0.Coords, k0_off1 i 0 = (i 1).val ∧ k0_off1 i 1 = 0 ∧ k0_off1 i 2 = 0 := by decide +kernel
/-- The key head as an index. -/
theorem head_val : ∀ i : grid0.Coords, (Scalar.indexCast (BitVec.ofNat 32 (i 1).val) : Index).toNat = (i 1).val := by decide +kernel
/-- There are eight key heads. -/
theorem head_lt : ∀ i : grid0.Coords, (i 1).val < 8 := by decide +kernel

/-! ### The query scales -/

/-- The query scales in the buffer: rotation `s`, key head `k`, query head `h` of five, query `n`. -/
def G10 (X : S1x640x40.Idx → EReal) (s k h n : ℕ) : EReal :=
  X (ix3 0 ⟨(128 * (n / 128) + (n % 128 + 128 - 32 * s) % 128) % 640, by omega⟩ ⟨(5 * k + h) % 40, by omega⟩) * scale2

/-- The buffer of query scales is ready for the block `X` of scales. -/
def Ready10 (M10 : Memref sig .tc .vmem S4x8x8x640 .f32) (f10 : Bf (F := Ideal) c M10) (X : S1x640x40.Idx → EReal) : Prop :=
  ∀ (s : Fin 4) (k h : Fin 8) (n : Fin 640), h.val < 5 → M10.view.read (Elt Ideal) f10 (ix4 s k h n) = G10 X s.val k.val h.val n.val

/-- The query scales turned over and scaled, at an element. -/
theorem pay1_apply (x : Vec Ideal S1x640x40 .f32) (r : Fin 40) (n : Fin 640) : k0_pay1 x (ix2 r n) = x (ix3 0 n r) * scale2 := by
  unfold k0_pay1
  show transpose S40x640 [1, 0] (shapeCast S640x40 x _) _ (ix2 r n) * _ = _
  rw [show transpose S40x640 [1, 0] (shapeCast S640x40 x shapeCasts_S1x640x40_S640x40) transposes_S640x40_p1_0_S40x640 (ix2 r n)
    = shapeCast S640x40 x shapeCasts_S1x640x40_S640x40 (ix2 n r) from transpose_ix2_apply (a := 640) (b := 40) _ _ r n]
  rw [show shapeCast S640x40 x shapeCasts_S1x640x40_S640x40 (ix2 n r) = x (ix3 0 n r) from shapeCast_1ab_ab_apply x _ n r]
  rfl

/-- The block a store of query scales takes, rotated. -/
def qsTurn (x : FVec Ideal S40x640 .f32) (t : ℕ) : FVec Ideal (S2 5 128) .f32 :=
  bif Nat.beq (t % 4) 0 then qsBase x t else dynamicRotate 1 (BitVec.ofNat 32 (32 * (t % 4))) none (qsBase x t)

/-- A rotated piece of query scales at an element. -/
theorem qsRot (x : FVec Ideal S40x640 .f32) (t : ℕ) (h : Fin 5) (l : Fin 128) :
    qsTurn x t (ix2 h l) = qsBase x t (ix2 h (⟨(l.val + 128 - 32 * (t % 4)) % 128, Nat.mod_lt _ (by omega)⟩ : Fin 128)) := by
  have hl := l.isLt
  unfold qsTurn
  by_cases h0 : t % 4 = 0
  · rw [show Nat.beq (t % 4) 0 = true from by rw [h0]; rfl]
    show qsBase x t (ix2 h l) = _
    congr 2
    exact Fin.ext (by show l.val = (l.val + 128 - 32 * (t % 4)) % 128; omega)
  · rw [show Nat.beq (t % 4) 0 = false from Bool.eq_false_iff.2 fun hh => h0 (Nat.eq_of_beq_eq_true hh)]
    show (dynamicRotate 1 (BitVec.ofNat 32 (32 * (t % 4))) none (qsBase x t)) (ix2 h l) = _
    refine dynamicRotate_apply 1 _ _ _ (ix2 h l) _ fun e => ?_
    fin_cases e
    · rfl
    · show (l.val + 128 - 32 * (t % 4)) % 128 = (l.val + 128 - (BitVec.ofNat 32 (32 * (t % 4))).toNat % 128) % 128
      rw [BitVec.toNat_ofNat]
      have := Nat.mod_lt t (show 0 < 4 by omega)
      omega

/-- Each stored piece of query scales agrees with the contents the buffer is to have. -/
theorem qsPiece_apply (X : Vec Ideal S1x640x40 .f32) (t : ℕ) (x : (qsPiece (k0_pay1 X) t).1.shape.Idx) :
    (qsPiece (k0_pay1 X) t).2 x = (fun y : S4x8x8x640.Idx => G10 X (y 0).val (y 1).val (y 2).val (y 3).val) ((qsPiece (k0_pay1 X) t).1.emb x) := by
  obtain ⟨a, b, h, l, rfl⟩ : ∃ (a b : Fin 1) (h : Fin 5) (l : Fin 128), x = ix4 a b h l := ⟨_, _, _, _, eq_ix4 _⟩
  have ha := a.isLt
  have hb := b.isLt
  have hh := h.isLt
  have hl := l.isLt
  have base : ∀ l' : Fin 128, qsBase (k0_pay1 X) t (ix2 h l')
      = X (ix3 0 ⟨(128 * (t / 32 % 5) + l'.val) % 640, by omega⟩ ⟨(5 * (t / 4 % 8) + h.val) % 40, by omega⟩) * scale2 := by
    intro l'
    unfold qsBase
    rw [block_apply (k0_pay1 X) _ h l' ⟨(5 * (t / 4 % 8) + h.val) % 40, by omega⟩ ⟨(128 * (t / 32 % 5) + l'.val) % 640, by omega⟩
      (by show (5 * (t / 4 % 8) + h.val) % 40 = 5 * (t / 4 % 8) + h.val; omega)
      (by show (128 * (t / 32 % 5) + l'.val) % 640 = 128 * (t / 32 % 5) + l'.val; omega)]
    exact pay1_apply X _ _
  have rot := qsRot (k0_pay1 X) t h l
  unfold qsPiece
  show shapeCast S1x1x5x128 (qsTurn (k0_pay1 X) t) _ (ix4 a b h l) = G10 X _ _ _ _
  rw [shapeCast_apply (s := S2 5 128) (t := S1x1x5x128) _ _ (ix4 a b h l) (ix2 h l) (by
    rw [show (Shape.rowMajor (S2 5 128) (ix2 h l)).val = 128 * h.val + l.val by rw [Shape.rowMajor_val_two]; simp [ix2]; omega,
      show (Shape.rowMajor S1x1x5x128 (ix4 a b h l)).val = 128 * h.val + l.val by rw [Shape.rowMajor_val_four]; simp [ix4]; omega])]
  rw [rot, base]
  unfold G10
  congr 2
  congr 1
  · exact Fin.ext (by
      show (128 * (t / 32 % 5) + (l.val + 128 - 32 * (t % 4)) % 128) % 640
        = (128 * ((128 * (t / 32 % 5) + 1 * l.val) / 128) + ((128 * (t / 32 % 5) + 1 * l.val) % 128 + 128 - 32 * (t % 4 + 1 * a.val)) % 128) % 640
      omega)
  · exact Fin.ext (by
      show (5 * (t / 4 % 8) + h.val) % 40 = (5 * (t / 4 % 8 + 1 * b.val) + (0 + 1 * h.val)) % 40
      omega)

/-- After its first part the body finds the query scales of the batch. -/
theorem ready10 (i : grid0.Coords) (M3 : Memref sig .tc .vmem S1x640x40 .f32) (M10 : Memref sig .tc .vmem S4x8x8x640 .f32)
    (f3 : Bf (F := Ideal) c M3) (f10 : Bf (F := Ideal) c M10) (h : (i 1).val = 0 ∨ Ready10 M10 f10 (M3.view.read (Elt Ideal) f3)) :
    Ready10 M10 (now10 c i M3 M10 f3 f10) (M3.view.read (Elt Ideal) f3) := by
  unfold now10
  by_cases hc : bodyRun.sl.v2 i = 1#1
  · rw [dif_pos hc, qs_list]
    intro s k h n hh
    have hld : ldXs c M3 f3 = M3.view.read (Elt Ideal) f3 := funext fun x => load_apply M3 f3 _ _ _ x x fun a => by fin_cases a <;> exact (Nat.zero_add _).symm
    rw [hld]
    have hn := n.isLt
    have hs := s.isLt
    have hk := k.isLt
    exact read_listOf M10.view f10 (qsPiece (k0_pay1 (M3.view.read (Elt Ideal) f3))) 160
      (fun y => G10 (M3.view.read (Elt Ideal) f3) (y 0).val (y 1).val (y 2).val (y 3).val) (fun t _ x => qsPiece_apply _ t x)
      (ix4 s k h n) (32 * (n.val / 128) + 4 * k.val + s.val) (by omega) (ix4 (0 : Fin 1) (0 : Fin 1) (⟨h.val, hh⟩ : Fin 5) (⟨n.val % 128, by omega⟩ : Fin 128))
      (Rect.emb_eq_of_coords _ _ _ fun a => by
        fin_cases a
        · show s.val = (32 * (n.val / 128) + 4 * k.val + s.val) % 4 + 1 * 0; omega
        · show k.val = (32 * (n.val / 128) + 4 * k.val + s.val) / 4 % 8 + 1 * 0; omega
        · show h.val = 0 + 1 * h.val; omega
        · show n.val = 128 * ((32 * (n.val / 128) + 4 * k.val + s.val) / 32 % 5) + 1 * (n.val % 128); omega)
  · rw [dif_neg hc]
    exact h.resolve_left fun h0 => hc ((first_iff i).2 h0)

/-! ### The key scales and the value scales -/

/-- A buffer of scales, one head a row, is ready for the block `X` of scales. -/
def ReadyRow (M : Memref sig .tc .vmem S8x1x640 .f32) (f : Bf (F := Ideal) c M) (X : S1x640x8.Idx → EReal) : Prop :=
  ∀ (k : Fin 8) (n : Fin 640), M.view.read (Elt Ideal) f (ix3 k 0 n) = X (ix3 0 n k)

/-- Each stored row of scales agrees with the contents the buffer is to have. -/
theorem ksPiece_apply (X : Vec Ideal S1x640x8 .f32) (t : ℕ) (x : (ksPiece X t).1.shape.Idx) :
    (ksPiece X t).2 x = (fun y : S8x1x640.Idx => X (ix3 0 (y 2) (y 0))) ((ksPiece X t).1.emb x) := by
  obtain ⟨a, b, l, rfl⟩ : ∃ (a b : Fin 1) (l : Fin 640), x = ix3 a b l := ⟨_, _, _, eq_ix3 _⟩
  have ha := a.isLt
  have hb := b.isLt
  have e1 : ∀ (r : Fin 8) (n : Fin 640), transpose (S2 8 640) [1, 0] (shapeCast (S2 640 8) X shapeCasts_S1x640x8_S640x8) transposes_S640x8_p1_0_S8x640 (ix2 r n) = X (ix3 0 n r) := fun r n =>
    (transpose_ix2_apply (a := 640) (b := 8) _ _ r n).trans (shapeCast_1ab_ab_apply X _ n r)
  unfold ksPiece
  show shapeCast S1x1x640 (extractStridedSlice (S2 1 640) ![t % 8, 0] (transpose (S2 8 640) [1, 0] (shapeCast (S2 640 8) X shapeCasts_S1x640x8_S640x8) transposes_S640x8_p1_0_S8x640) (slices2 (by omega) (by omega))) _ (ix3 a b l)
    = X (ix3 0 _ _)
  rw [shapeCast_ab_1ab_apply (a := 1) (b := 640),
    block_apply (transpose (S2 8 640) [1, 0] (shapeCast (S2 640 8) X shapeCasts_S1x640x8_S640x8) transposes_S640x8_p1_0_S8x640) (slices2 (by omega) (by omega)) b l
      (⟨t % 8, by omega⟩ : Fin 8) l (by show t % 8 = t % 8 + b.val; omega) (by show l.val = 0 + l.val; omega), e1]
  congr 2
  · exact Fin.ext (by show l.val = 0 + 1 * l.val; omega)
  · exact Fin.ext (by show t % 8 = t % 8 + 1 * a.val; omega)

/-- Eight stored rows of scales fill the buffer. -/
theorem row_list (M : Memref sig .tc .vmem S8x1x640 .f32) (f : Bf (F := Ideal) c M) (X : Vec Ideal S1x640x8 .f32) :
    ReadyRow (c := c) M (M.view.writes (Elt Ideal) f (listOf (ksPiece X) 8)) X := by
  intro k n
  have hk := k.isLt
  exact read_listOf M.view f (ksPiece X) 8 (fun y : S8x1x640.Idx => X (ix3 0 (y 2) (y 0))) (fun t _ x => ksPiece_apply X t x) (ix3 k 0 n) k.val hk
    (ix3 (0 : Fin 1) (0 : Fin 1) n) (Rect.emb_eq_of_coords _ _ _ fun a => by
        fin_cases a
        · show k.val = k.val % 8 + 1 * 0; omega
        · rfl
        · show n.val = 0 + 1 * n.val; omega)

/-- After its first part the body finds the key scales of the batch. -/
theorem ready11 (i : grid0.Coords) (M5 : Memref sig .tc .vmem S1x640x8 .f32) (M11 : Memref sig .tc .vmem S8x1x640 .f32)
    (f5 : Bf (F := Ideal) c M5) (f11 : Bf (F := Ideal) c M11) (h : (i 1).val = 0 ∨ ReadyRow M11 f11 (M5.view.read (Elt Ideal) f5)) :
    ReadyRow M11 (now11 c i M5 M11 f5 f11) (M5.view.read (Elt Ideal) f5) := by
  unfold now11
  by_cases hc : bodyRun.sl.v2 i = 1#1
  · rw [dif_pos hc, ks_list]
    have hld : ldKsc c M5 f5 = M5.view.read (Elt Ideal) f5 := funext fun x => load_apply M5 f5 _ _ _ x x fun a => by fin_cases a <;> exact (Nat.zero_add _).symm
    rw [hld]
    exact row_list M11 f11 _
  · rw [dif_neg hc]
    exact h.resolve_left fun h0 => hc ((first_iff i).2 h0)

/-- After its first part the body finds the value scales of the batch. -/
theorem ready12 (i : grid0.Coords) (M7 : Memref sig .tc .vmem S1x640x8 .f32) (M12 : Memref sig .tc .vmem S8x1x640 .f32)
    (f7 : Bf (F := Ideal) c M7) (f12 : Bf (F := Ideal) c M12) (h : (i 1).val = 0 ∨ ReadyRow M12 f12 (M7.view.read (Elt Ideal) f7)) :
    ReadyRow M12 (now12 c i M7 M12 f7 f12) (M7.view.read (Elt Ideal) f7) := by
  unfold now12
  by_cases hc : bodyRun.sl.v2 i = 1#1
  · rw [dif_pos hc, vs_list]
    have hld : ldVsc c M7 f7 = M7.view.read (Elt Ideal) f7 := funext fun x => load_apply M7 f7 _ _ _ x x fun a => by fin_cases a <;> exact (Nat.zero_add _).symm
    rw [hld]
    exact row_list M12 f12 _
  · rw [dif_neg hc]
    exact h.resolve_left fun h0 => hc ((first_iff i).2 h0)

/-! ### The mask -/

/-- The mask buffer is ready. -/
def Ready14 (M14 : Memref sig .tc .vmem S5x64x128 .f32) (f14 : Bf (F := Ideal) c M14) : Prop :=
  ∀ (b : Fin 5) (r : Fin 64) (l : Fin 128), M14.view.read (Elt Ideal) f14 (ix3 b r l) = (if 32 * (4 * b.val / 5) + r.val ≤ pos b.val l.val then ⊤ else ⊥ : EReal)

/-- The row number as a word. -/
theorem row_word : ∀ (r : Fin 64) (l : Fin 128), rowM (ix2 r l) = BitVec.ofNat 32 r.val := by decide +kernel
/-- The lane number as a word. -/
theorem lane_word : ∀ (r : Fin 64) (l : Fin 128), laneM (ix2 r l) = BitVec.ofNat 32 l.val := by decide +kernel

/-- The quotient rounded down, of a word. -/
def fdivW (x d : BitVec 32) : BitVec 32 :=
  Scalar.select (IntOp.andi (IntOp.cmpi .ne (IntOp.subi ((IntOp.cmpi .sgt x 0#32).setWidth 32) ((IntOp.cmpi .slt x 0#32).setWidth 32)) 1#32)
    (IntOp.cmpi .ne (IntOp.remsi .vector x d) 0#32)) (IntOp.subi (IntOp.divsi .vector x d) 1#32) (IntOp.divsi .vector x d)
/-- The remainder that goes with it. -/
def fmodW (x d : BitVec 32) : BitVec 32 :=
  Scalar.select (IntOp.andi (IntOp.xori (IntOp.cmpi .slt (IntOp.remsi .vector x d) 0#32) 0#1)
    (IntOp.cmpi .ne (IntOp.remsi .vector x d) 0#32)) (IntOp.addi (IntOp.remsi .vector x d) d) (IntOp.remsi .vector x d)

/-- The quotient rounded down, at an element. -/
theorem fdivM_apply (x : IVec (S2 64 128) 32) (d : BitVec 32) (j) : fdivM x d j = fdivW (x j) d := rfl
/-- The remainder of that quotient, at an element. -/
theorem fmodM_apply (x : IVec (S2 64 128) 32) (d : BitVec 32) (j) : fmodM x d j = fmodW (x j) d := rfl

/-- The position a lane number gives. -/
def posW (b : ℕ) (x : BitVec 32) : BitVec 32 :=
  IntOp.addi (fmodW x 32#32) (IntOp.muli (fdivW (IntOp.addi (fdivW x 32#32) (BitVec.ofNat 32 (4 * b))) 5#32) 32#32)

/-- The position computed from a lane number is the lane's query. -/
theorem posW_eq : ∀ (b : Fin 5) (l : Fin 128), posW b.val (BitVec.ofNat 32 l.val) = BitVec.ofNat 32 (pos b.val l.val) := by decide +kernel

/-- The positions at an element. -/
theorem posM_apply (b : ℕ) (j) : posM b j = posW b (laneM j) := by
  unfold posM posW
  rw [← fmodM_apply, ← fdivM_apply laneM]
  show IntOp.addi _ (IntOp.muli (fdivM (addi (fdivM laneM 32#32) (allM (BitVec.ofNat 32 (4 * b)))) 5#32 j) 32#32) = _
  rw [fdivM_apply]
  rfl

/-- The position of a lane as a word. -/
theorem pos_word (b : Fin 5) (r : Fin 64) (l : Fin 128) : posM b.val (ix2 r l) = BitVec.ofNat 32 (pos b.val l.val) := by
  rw [posM_apply, lane_word, posW_eq]

/-- The comparison of a key with a position, on words, is that of the numbers. -/
theorem sle_small : ∀ (r : Fin 64) (q : Fin 4) (p : Fin 128), IntOp.cmpi .sle (IntOp.addi (BitVec.ofNat 32 r.val) (BitVec.ofNat 32 (32 * q.val))) (BitVec.ofNat 32 p.val)
    = BitVec.ofBool (decide (32 * q.val + r.val ≤ p.val)) := by decide +kernel

/-- The comparison the mask is made of, at an element. -/
theorem mask_word (b : Fin 5) (r : Fin 64) (l : Fin 128) :
    cmpi .sle (addi rowM (allM (BitVec.ofNat 32 (32 * (4 * b.val / 5))))) (posM b.val) (ix2 r l)
      = BitVec.ofBool (decide (32 * (4 * b.val / 5) + r.val ≤ pos b.val l.val)) := by
  have hb := b.isLt
  have hl := l.isLt
  show IntOp.cmpi .sle (IntOp.addi (rowM (ix2 r l)) (BitVec.ofNat 32 (32 * (4 * b.val / 5)))) (posM b.val (ix2 r l)) = _
  rw [pos_word, row_word]
  exact sle_small r ⟨4 * b.val / 5, by omega⟩ ⟨pos b.val l.val, by unfold pos; omega⟩

/-- The mask at an element: plus infinity where the key is seen, minus infinity where it is not. -/
theorem maskM_apply (b : Fin 5) (r : Fin 64) (l : Fin 128) :
    maskM (F := Ideal) b.val (ix2 r l) = (if 32 * (4 * b.val / 5) + r.val ≤ pos b.val l.val then ⊤ else ⊥ : EReal) := by
  unfold maskM
  show Scalar.select (cmpi .sle (addi rowM (allM (BitVec.ofNat 32 (32 * (4 * b.val / 5))))) (posM b.val) (ix2 r l))
    (Ideal.ofBits .f32 0x7F800000#32) (Ideal.ofBits .f32 0xFF800000#32) = _
  rw [mask_word, select_ofBool, pos_inf, neg_inf]

/-- After its first part the body finds the mask. -/
theorem ready14 (i : grid0.Coords) (M14 : Memref sig .tc .vmem S5x64x128 .f32)
    (f14 : Bf (F := Ideal) c M14) (h : (i 1).val = 0 ∨ Ready14 M14 f14) : Ready14 M14 (now14 c i M14 f14) := by
  rw [mask_list]
  by_cases hc : bodyRun.sl.v2 i = 1#1
  · rw [dif_pos hc]
    intro b r l
    refine read_listOf M14.view f14 maskPiece 5 (fun y : S5x64x128.Idx => (if 32 * (4 * (y 0).val / 5) + (y 1).val ≤ pos (y 0).val (y 2).val then ⊤ else ⊥ : EReal))
      (fun t ht x => ?_) (ix3 b r l) b.val b.isLt (ix3 (0 : Fin 1) r l) (Rect.emb_eq_of_coords _ _ _ fun a => by
        have := b.isLt
        fin_cases a
        · show b.val = b.val % 5 + 1 * 0; omega
        · show r.val = 0 + 1 * r.val; omega
        · show l.val = 0 + 1 * l.val; omega)
    obtain ⟨a, r', l', rfl⟩ : ∃ (a : Fin 1) (r' : Fin 64) (l' : Fin 128), x = ix3 a r' l' := ⟨_, _, _, eq_ix3 _⟩
    have ha := a.isLt
    refine (shapeCast_ab_1ab_apply (a := 64) (b := 128) (maskM (F := Ideal) t) _ a r' l').trans ?_
    refine (maskM_apply ⟨t, ht⟩ r' l').trans ?_
    show _ = (if 32 * (4 * (t % 5 + 1 * a.val) / 5) + (0 + 1 * r'.val) ≤ pos (t % 5 + 1 * a.val) (0 + 1 * l'.val) then ⊤ else ⊥ : EReal)
    rw [show t % 5 + 1 * a.val = t by omega, show 0 + 1 * r'.val = r'.val by omega, show 0 + 1 * l'.val = l'.val by omega]
  · rw [dif_neg hc]
    exact h.resolve_left fun h0 => hc ((first_iff i).2 h0)

end Cert.KernelIdeal.Body

end
-- ==== Proof.Spec.lean ====
/-
  The attention output of one query head and its stored code, as functions of the numbers that enter them.
-/
module

public import proofs.«01_k».proof.Proof.Codes
public import proofs.«01_k».proof.Proof.Out

@[expose] public section

noncomputable section

namespace Cert.Soft

open Cert.KernelIdeal.Pair
open Idealize.ShloMosaic Idealize.ShloMosaic.ValueIdx

/-- One number of the attention output: the values `vf` weighted by the masked softmax of the scores of the query `xf` at
    position `p` against the keys `kf` with scales `sf`, the query's scale `x` entering the exponent. -/
def attP (p : ℕ) (kf : ℕ → Fin 128 → EReal) (xf : Fin 128 → EReal) (sf : ℕ → EReal) (x : EReal) (vf : ℕ → EReal) : EReal :=
  ∑ k ∈ Finset.range 640, vf k * wt (masked p fun k => (∑ e : Fin 128, kf k e * xf e) * sf k) x 640 k

/-- The attention output of a block's lane is that at the lane's position. -/
theorem att_eq (b l : ℕ) (kf : ℕ → Fin 128 → EReal) (xf : Fin 128 → EReal) (sf : ℕ → EReal) (x : EReal) (vf : ℕ → EReal) :
    att b l kf xf sf x vf = attP (pos b l) kf xf sf x vf := rfl

/-- The shared exponent of the 32 numbers around column `d`. -/
def expoVal (f : Fin 128 → EReal) (d : Fin 128) : BitVec 32 :=
  expo8 fun i => f ⟨32 * (d.val / 32) + i.val, by have := d.isLt; have := i.isLt; omega⟩

/-- The code of column `d`, under the exponent it shares. -/
def codeVal (f : Fin 128 → EReal) (d : Fin 128) : EReal := code (f d) (expoVal f d)

/-- A three-axis array of numbers. -/
abbrev Arr (a b c : ℕ) : Type := (⟨3, ![a, b, c]⟩ : Shape).Idx → EReal

/-- The attention output of batch `b`, query `n`, query head `g` of key head `kv`, column `d`, out of the whole arrays. -/
def attnA (x0 : Arr 3 640 5120) (x1 : Arr 3 640 40) (x2 : Arr 3 640 1024) (x3 : Arr 3 640 8) (x4 : Arr 3 640 1024) (x5 : Arr 3 640 8)
    (b : Fin 3) (n : Fin 640) (kv g : ℕ) (d : Fin 128) : EReal :=
  attP n.val (fun k e => x2 (ix3 b ⟨k % 640, Nat.mod_lt _ (by omega)⟩ ⟨(128 * kv + e.val) % 1024, Nat.mod_lt _ (by omega)⟩))
    (fun e => x0 (ix3 b n ⟨(640 * kv + 128 * g + e.val) % 5120, Nat.mod_lt _ (by omega)⟩))
    (fun k => x3 (ix3 b ⟨k % 640, Nat.mod_lt _ (by omega)⟩ ⟨kv % 8, Nat.mod_lt _ (by omega)⟩))
    (x1 (ix3 b n ⟨(5 * kv + g) % 40, Nat.mod_lt _ (by omega)⟩) * scale2)
    (fun k => x4 (ix3 b ⟨k % 640, Nat.mod_lt _ (by omega)⟩ ⟨(128 * kv + d.val) % 1024, Nat.mod_lt _ (by omega)⟩)
      * x5 (ix3 b ⟨k % 640, Nat.mod_lt _ (by omega)⟩ ⟨kv % 8, Nat.mod_lt _ (by omega)⟩))

/-- The stored code of batch `b`, query `n`, column `C`. -/
def codeA (x0 : Arr 3 640 5120) (x1 : Arr 3 640 40) (x2 : Arr 3 640 1024) (x3 : Arr 3 640 8) (x4 : Arr 3 640 1024) (x5 : Arr 3 640 8)
    (b : Fin 3) (n : Fin 640) (C : Fin 5120) : EReal :=
  codeVal (attnA x0 x1 x2 x3 x4 x5 b n (C.val / 640) (C.val / 128 % 5)) ⟨C.val % 128, Nat.mod_lt _ (by omega)⟩

/-- The stored exponent of batch `b`, query `n`, group `B` of 32 columns. -/
def expoA (x0 : Arr 3 640 5120) (x1 : Arr 3 640 40) (x2 : Arr 3 640 1024) (x3 : Arr 3 640 8) (x4 : Arr 3 640 1024) (x5 : Arr 3 640 8)
    (b : Fin 3) (n : Fin 640) (B : Fin 160) : BitVec 32 :=
  expoVal (attnA x0 x1 x2 x3 x4 x5 b n (B.val / 20) (B.val / 4 % 5)) ⟨32 * (B.val % 4), by omega⟩

/-- A magnitude is not negative. -/
theorem mag_nonneg (x : EReal) : 0 ≤ mag x := by
  unfold mag
  rcases le_total 0 x with h | h
  · exact le_max_of_le_left h
  · exact le_max_of_le_right (EReal.neg_nonneg.2 h)

/-- One over 448 in the float format is a positive real. -/
theorem seventh_pos : ∃ r : ℝ, 0 < r ∧ Ideal.ofBits .f32 991054117#32 = (r : EReal) := by
  refine ⟨((2 ^ 23 + 1198373 : ℕ) : ℝ) * (2 : ℝ) ^ ((118 : ℤ) - 127 - 23), by positivity, ?_⟩
  have h1 : (991054117#32).extractLsb' 31 1 = 0#1 := by decide
  have h2 : ((991054117#32).extractLsb' 23 8).toNat = 118 := by decide
  have h3 : ((991054117#32).extractLsb' 0 23).toNat = 1198373 := by decide
  unfold Ideal.ofBits Ideal.ieee
  simp only [Nat.reduceAdd] at *
  rw [h1, h2, h3, if_neg (by omega), if_neg (by omega)]
  refine congrArg _ ?_
  norm_num

/-- The capped maximum is a nonnegative real under the cap. -/
theorem peak_real (o : Fin 32 → EReal) : ∃ r : ℝ, peak o = (r : EReal) ∧ 0 ≤ r ∧ r < Expo.pow 247 := by
  obtain ⟨c, hc, c0, c1⟩ := Expo.cap_real
  obtain ⟨s, s0, hs⟩ := seventh_pos
  have h0 : (0 : EReal) ≤ peak o := by
    unfold peak
    rw [hc, hs]
    refine le_min (mul_nonneg ?_ (EReal.coe_nonneg.2 s0.le)) (EReal.coe_nonneg.2 c0)
    exact (mag_nonneg (o 0)).trans (Finset.le_sup (f := fun i => mag (o i)) (Finset.mem_univ (0 : Fin 32)))
  have h1 : peak o ≤ (c : EReal) := by
    unfold peak
    rw [hc]
    exact min_le_right _ _
  obtain ⟨r, hr⟩ : ∃ r : ℝ, peak o = (r : EReal) := by
    induction h : peak o with
    | bot => rw [h] at h0; exact absurd h0 (by simp)
    | top => rw [h] at h1; exact absurd h1 (by simp)
    | coe r => exact ⟨r, rfl⟩
  rw [hr] at h0 h1
  exact ⟨r, hr, EReal.coe_nonneg.1 h0, (EReal.coe_le_coe_iff.1 h1).trans_lt c1⟩

/-- The shared exponent by the logarithm. -/
theorem expo8_eq (o : Fin 32 → EReal) : expo8 o = Expo.expLog (peak o) := by
  obtain ⟨r, hr, h0, h1⟩ := peak_real o
  unfold expo8
  rw [hr]
  exact Expo.expOf_field r h0 h1

/-- The power of two of the shared exponent, by exponentiation. -/
theorem inv_expo8 (o : Fin 32 → EReal) : Expo.inv (expo8 o) = Ideal.exp2 (0 - (((expo8 o).toInt : ℝ) : EReal)) := by
  obtain ⟨r, hr, h0, h1⟩ := peak_real o
  unfold expo8
  rw [hr]
  exact Expo.inv_eq r h1

end Cert.Soft

end
-- ==== Proof.Block.lean ====
/-
  The block of codes the body leaves: each number is the code of an attention output of the point's batch and key head.
-/
module

public import proofs.«01_k».proof.Proof.Ready
public import proofs.«01_k».proof.Proof.Spec

@[expose] public section

set_option maxRecDepth 16384

noncomputable section

namespace Cert.KernelIdeal.Body

open Cert.KernelIdeal Cert.KernelIdeal.Gen Cert.KernelIdeal.Pair Cert.Soft
open Idealize.ShloMosaic Idealize.ShloMosaic.ValueIdx
open Idealize.ShloMosaic.TcCoe

/-- What a buffer holds. -/
abbrev rd {c : Dev nD} {S : Shape} {e : EltTy} (M : Memref sig .tc .vmem S e) (f : Bf (F := Ideal) c M) : S.Idx → Elt Ideal e :=
  M.view.read (Elt Ideal) f

variable (c : Dev nD) (i : grid0.Coords)
  (M2 : Memref sig .tc .vmem S1x640x640 .fp8e4m3) (M3 : Memref sig .tc .vmem S1x640x40 .f32) (M4 : Memref sig .tc .vmem S1x640x128 .fp8e4m3)
  (M5 : Memref sig .tc .vmem S1x640x8 .f32) (M6 : Memref sig .tc .vmem S1x640x128 .fp8e4m3) (M7 : Memref sig .tc .vmem S1x640x8 .f32)
  (M8 : Memref sig .tc .vmem S1x640x640 .fp8e4m3)
  (M10 : Memref sig .tc .vmem S4x8x8x640 .f32) (M11 M12 : Memref sig .tc .vmem S8x1x640 .f32) (M13 : Memref sig .tc .vmem S128x640 .bf16)
  (M14 : Memref sig .tc .vmem S5x64x128 .f32)
  (f2 : Bf (F := Ideal) c M2) (f3 : Bf (F := Ideal) c M3) (f4 : Bf (F := Ideal) c M4) (f5 : Bf (F := Ideal) c M5) (f6 : Bf (F := Ideal) c M6)
  (f7 : Bf (F := Ideal) c M7) (f8 : Bf (F := Ideal) c M8) (f10 g10 : Bf (F := Ideal) c M10) (f11 g11 : Bf (F := Ideal) c M11) (f12 : Bf (F := Ideal) c M12)
  (f14 g14 : Bf (F := Ideal) c M14)

/-! ### The loads -/

variable {c}

/-- The loaded queries of unit `u` at an element: those of its head and its 32 positions in the block. -/
theorem ldX_apply (u : ℕ) (q : Fin 32) (e : Fin 128) (n C : Fin 640) (hn : n.val = 32 * (u / 5 % 20) + q.val) (hC : C.val = 128 * (u % 5) + e.val) :
    ldX M2 f2 u (ix2 q e) = rd M2 f2 (ix3 0 n C) :=
  (shapeCast_1ab_ab_apply (a := 32) (b := 128) _ _ q e).trans (load_apply M2 f2 _ _ _ (ix3 (0 : Fin 1) q e) (ix3 0 n C) fun a => by
    fin_cases a
    · rfl
    · exact hn
    · exact hC)

/-- The loaded keys at an element. -/
theorem ldK_apply (R : Fin 640) (e : Fin 128) : ldK M4 f4 (ix2 R e) = rd M4 f4 (ix3 0 R e) := by
  unfold ldK k0_pay432
  exact (shapeCast_1ab_ab_apply (a := 640) (b := 128) _ _ R e).trans (load_apply M4 f4 _ _ _ (ix3 (0 : Fin 1) R e) (ix3 0 R e) fun a => by
    fin_cases a <;> exact (Nat.zero_add _).symm)

/-- A row of 640 scales viewed as a one-row matrix, at an element. -/
theorem row_apply (x : Vec Ideal S1x1x640 .f32) (h) (R : Fin 640) : (shapeCast S1x640 x h : FVec Ideal S1x640 .f32) (ix2 0 R) = x (ix3 0 0 R) :=
  shapeCast_1ab_ab_apply (a := 1) (b := 640) x h 0 R

/-- The loaded row of the point's key head: that head's scales. -/
theorem ldRow_apply (M : Memref sig .tc .vmem S8x1x640 .f32) (g : Bf (F := Ideal) c M) (X : S1x640x8.Idx → EReal) (h : ReadyRow M g X) (kv : Fin 8) (hkv : kv.val = (i 1).val)
    (R : Fin 640) :
    M.view.readAt (Elt Ideal) (Rect.unit (k0_off1 i) S1x1x640.size (k0_off1_inb i) : Rect S8x1x640).toLoadRect g (ix3 (0 : Fin 1) (0 : Fin 1) R) = X (ix3 0 R kv) := by
  obtain ⟨h0, h1, h2⟩ := off1_val i
  refine (load_apply M g _ _ _ (ix3 (0 : Fin 1) (0 : Fin 1) R) (ix3 kv 0 R) fun a => ?_).trans (h kv R)
  fin_cases a
  · show kv.val = k0_off1 i 0 + 0; omega
  · show 0 = k0_off1 i 1 + 0; omega
  · show R.val = k0_off1 i 2 + R.val; omega

/-- The key scale spread over the lanes, at an element: that of the key. -/
theorem ldKs_apply (X : S1x640x8.Idx → EReal) (h : ReadyRow M11 g11 X) (kv : Fin 8) (hkv : kv.val = (i 1).val) (R : Fin 640) (l : Fin 128) :
    ldKs i M11 g11 (ix2 R l) = X (ix3 0 R kv) := by
  unfold ldKs k0_pay433
  refine (transpose_ix2_apply (a := 128) (b := 640) _ _ R l).trans ((broadcastTo_1b_ab_apply (a := 128) (b := 640) _ _ l R).trans ?_)
  refine (shapeCast_apply (s := S1x640) (t := S1x640) _ _ (ix2 0 R) (ix2 0 R) rfl).trans ?_
  rw [row_apply]
  exact ldRow_apply i M11 g11 X h kv hkv R

/-- The loaded mask of block `b`: plus infinity for a key the lane's query sees, minus infinity for a later one. -/
theorem ldBias_apply (h : Ready14 M14 g14) (b j : ℕ) (hj : j < 2) (r : Fin 32) (l : Fin 128) :
    ldBias M14 g14 (b % 5) j (ix2 r l) = (if 32 * (4 * b / 5 + j) + r.val ≤ pos b l.val then ⊤ else ⊥ : EReal) := by
  have hr := r.isLt
  have hl := l.isLt
  refine (shapeCast_1ab_ab_apply (a := 32) (b := 128) _ _ r l).trans ((load_apply M14 g14 _ _ _ (ix3 (0 : Fin 1) r l)
    (ix3 (⟨b % 5, by omega⟩ : Fin 5) (⟨32 * j + r.val, by omega⟩ : Fin 64) l) fun a => ?_).trans ((h _ _ _).trans ?_))
  · fin_cases a
    · show b % 5 = b % 5 % 5 + 0; omega
    · show 32 * j + r.val = 32 * (j % 2) + r.val; omega
    · show l.val = 0 + l.val; omega
  · have e : (32 * (4 * (b % 5) / 5) + (32 * j + r.val) ≤ pos (b % 5) l.val) ↔ (32 * (4 * b / 5 + j) + r.val ≤ pos b l.val) := by unfold pos; omega
    exact if_congr e rfl rfl

/-- The rotation brings each unit's scales to its lanes. -/
theorem lane_turn (u l : ℕ) (hu : u < 100) (hl : l < 128) (h : u % 4 = l / 32) :
    (128 * (u / 5 / 4) + (l + 128 - 32 * ((u + 3 * (u / 5)) % 4)) % 128) % 640 = 32 * (u / 5) + l % 32 := by
  obtain ⟨w, hw⟩ : ∃ w, w = u / 5 := ⟨_, rfl⟩
  rw [← hw]
  have hw' : w < 20 := by omega
  obtain ⟨s, hs⟩ : ∃ s, s = (u + 3 * w) % 4 := ⟨_, rfl⟩
  rw [← hs]
  have h1 : s < 4 := by omega
  have h2 : (l / 32 + 4 - s) % 4 = w % 4 := by omega
  have h3 : (l + 128 - 32 * s) % 128 = 32 * ((l / 32 + 4 - s) % 4) + l % 32 := by omega
  rw [h3, h2]
  omega

/-- A store of the whole buffer reads back. -/
theorem read_store {κ : Kind} {sp : Space} {S : Shape} {e : EltTy} (v : View sig κ sp S e) (f : v.ty.Contents (Elt Ideal)) (off : Fin S.rank → ℕ)
    (inb : ∀ a, off a + S.size a ≤ S.size a) (h0 : ∀ a, off a = 0) (w : S.Idx → Elt Ideal e) (y : S.Idx) :
    v.read (Elt Ideal) (v.writes (Elt Ideal) f [(⟨Rect.unit off S.size inb, w⟩ : View.Piece (Elt Ideal) S e)]) y = w y := by
  have he : ∀ x : S.Idx, (Rect.unit off S.size inb).emb x = x := fun x => Rect.emb_eq_of_coords (Rect.unit off S.size inb) x x fun a => by
    show (x a).val = off a + 1 * (x a).val
    rw [h0]
    omega
  refine read_listOf v f (fun _ => ⟨Rect.unit off S.size inb, w⟩) 1 w (fun t _ x => ?_) y 0 Nat.one_pos y (he y)
  show w x = w _
  exact congrArg w (he x).symm

/-- The loaded query scale at a lane: that of the lane's query and head, times the score scale. -/
theorem ldQ_apply (X : S1x640x40.Idx → EReal) (h : Ready10 M10 g10 X) (b : ℕ) (hb : b < 25) (l : Fin 128) (n : Fin 640) (H : Fin 40)
    (hn : n.val = pos b l.val) (hH : H.val = 5 * (i 1).val + (4 * b + l.val / 32) % 5) :
    ldQ i M10 g10 (4 * b + l.val / 32) (ix2 0 l) = X (ix3 0 n H) * scale2 := by
  have hl := l.isLt
  have hi := head_lt i
  have hd := head_val i
  obtain ⟨u, hu⟩ : ∃ u, u = 4 * b + l.val / 32 := ⟨_, rfl⟩
  rw [← hu] at hH ⊢
  have hu' : u < 100 := by omega
  have hp : n.val = 32 * (u / 5) + l.val % 32 := by rw [hn, hu]; rfl
  refine (shapeCast_apply (s := S1x1x1x128) (t := S2 1 128) _ _ (ix2 0 l) (ix4 (0 : Fin 1) (0 : Fin 1) (0 : Fin 1) l) (by
    rw [show (Shape.rowMajor (S2 1 128) (ix2 0 l)).val = l.val by rw [Shape.rowMajor_val_two]; simp [ix2],
      show (Shape.rowMajor S1x1x1x128 (ix4 (0 : Fin 1) (0 : Fin 1) (0 : Fin 1) l)).val = l.val by rw [Shape.rowMajor_val_four]; simp [ix4]])).trans ?_
  refine (load_apply M10 g10 _ _ _ (ix4 (0 : Fin 1) (0 : Fin 1) (0 : Fin 1) l)
    (ix4 (⟨(u + 3 * (u / 5)) % 4, by omega⟩ : Fin 4) (⟨(i 1).val, hi⟩ : Fin 8) (⟨u % 5, by omega⟩ : Fin 8) (⟨128 * (u / 20 % 5) + l.val, by omega⟩ : Fin 640)) fun a => ?_).trans
    ((h _ _ _ _ (by show u % 5 < 5; omega)).trans ?_)
  · fin_cases a
    · rfl
    · exact hd.symm
    · rfl
    · rfl
  · unfold G10
    congr 2
    congr 1
    · refine Fin.ext ?_
      show (128 * ((128 * (u / 20 % 5) + l.val) / 128) + ((128 * (u / 20 % 5) + l.val) % 128 + 128 - 32 * ((u + 3 * (u / 5)) % 4)) % 128) % 640 = n.val
      have e0 : u / 20 = u / 5 / 4 := by rw [Nat.div_div_eq_div_mul]
      have e1 : (128 * (u / 20 % 5) + l.val) / 128 = u / 5 / 4 := by rw [e0]; omega
      have e2 : (128 * (u / 20 % 5) + l.val) % 128 = l.val := by omega
      rw [hp, e1, e2]
      exact lane_turn u l.val (by omega) hl (by omega)
    · refine Fin.ext ?_
      show (5 * (i 1).val + u % 5) % 40 = H.val
      rw [hH]
      have : u % 5 < 5 := Nat.mod_lt _ (by omega)
      omega

/-- The scaled values at an element: the value times its scale. -/
theorem vals_apply (X : S1x640x8.Idx → EReal) (h : ReadyRow M12 (now12 c i M7 M12 f7 f12) X) (kv : Fin 8) (hkv : kv.val = (i 1).val)
    (n : ℕ) (hn : n ≤ 18) (d : Fin 128) (R : Fin (32 * (n + 2))) (R' : Fin 640) (hR : R'.val = R.val) :
    vals c i M6 M7 M12 M13 f6 f7 f12 n hn (ix2 d R) = rd M6 f6 (ix3 0 R' d) * X (ix3 0 R' kv) := by
  unfold vals View.readCov
  rw [v_list]
  refine (load_apply (c := c) M13 _ _ _ _ (ix2 d R) (ix2 d R') fun a => by
    fin_cases a
    · exact (Nat.zero_add _).symm
    · show R'.val = 0 + R.val; omega).trans ?_
  refine (read_store M13.view _ _ inb_S128x640_S128x640_0_0 (fun a => by fin_cases a <;> rfl) _ (ix2 d R')).trans ?_
  · unfold scaledV
    refine (shapeCast_apply (s := S128x640) (t := S128x640) _ _ (ix2 d R') (ix2 d R') rfl).trans ?_
    show transpose S128x640 [1, 0] (k0_pay434 (ldV c M6 f6)) transposes_S640x128_p1_0_S128x640 (ix2 d R')
      * broadcastTo S128x640 (shapeCast S1x640 (ldVs c i M12 (now12 c i M7 M12 f7 f12)) shapeCasts_S1x1x640_S1x640) broadcasts_S1x640_S128x640 (ix2 d R') = _
    congr 1
    · refine (transpose_ix2_apply (a := 640) (b := 128) _ _ d R').trans ?_
      unfold k0_pay434
      exact (shapeCast_1ab_ab_apply (a := 640) (b := 128) (ldV c M6 f6) _ R' d).trans (load_apply M6 f6 _ _ _ (ix3 (0 : Fin 1) R' d) (ix3 0 R' d) fun a => by
        fin_cases a <;> exact (Nat.zero_add _).symm)
    · refine (broadcastTo_1b_ab_apply (a := 128) (b := 640) _ _ d R').trans ?_
      rw [row_apply]
      exact ldRow_apply i M12 _ X h kv hkv R'

/-! ### The attention output of the point -/

/-- The attention output of the point's batch and key head, read off its blocks. -/
def attB (X2 : S1x640x640.Idx → EReal) (X3 : S1x640x40.Idx → EReal) (X4 : S1x640x128.Idx → EReal) (X5 : S1x640x8.Idx → EReal)
    (X6 : S1x640x128.Idx → EReal) (X7 : S1x640x8.Idx → EReal) (kv : Fin 8) (n h : ℕ) (d : Fin 128) : EReal :=
  attP n (fun k e => X4 (ix3 0 ⟨k % 640, Nat.mod_lt _ (by omega)⟩ e)) (fun e => X2 (ix3 0 ⟨n % 640, Nat.mod_lt _ (by omega)⟩ ⟨(128 * h + e.val) % 640, Nat.mod_lt _ (by omega)⟩))
    (fun k => X5 (ix3 0 ⟨k % 640, Nat.mod_lt _ (by omega)⟩ kv)) (X3 (ix3 0 ⟨n % 640, Nat.mod_lt _ (by omega)⟩ ⟨(5 * kv.val + h) % 40, Nat.mod_lt _ (by omega)⟩) * scale2)
    (fun k => X6 (ix3 0 ⟨k % 640, Nat.mod_lt _ (by omega)⟩ d) * X7 (ix3 0 ⟨k % 640, Nat.mod_lt _ (by omega)⟩ kv))

variable (h10 : Ready10 M10 (now10 c i M3 M10 f3 f10) (rd M3 f3)) (h11 : ReadyRow M11 (now11 c i M5 M11 f5 f11) (rd M5 f5))
  (h12 : ReadyRow M12 (now12 c i M7 M12 f7 f12) (rd M7 f7)) (h14 : Ready14 M14 (now14 c i M14 f14))
  (hpos : ∀ (n : Fin 640) (H : Fin 40), 0 < rd M3 f3 (ix3 0 n H) * scale2)
  (kv : Fin 8) (hkv : kv.val = (i 1).val)

include h10 h11 h14 hkv in
/-- All that one block's output is computed from, read at its elements. -/
theorem given {N : ℕ} (hN : N ≤ 640) (K : FVec Ideal (S2 N 128) .fp8e4m3) (V : FVec Ideal (S2 128 N) .bf16) (b : ℕ) (hb : b < 25) (l d : Fin 128)
    (hK : ∀ (R : Fin N) (R' : Fin 640) (e : Fin 128), R'.val = R.val → K (ix2 R e) = rd M4 f4 (ix3 0 R' e))
    (hV : ∀ (R : Fin N) (R' : Fin 640), R'.val = R.val → V (ix2 d R) = rd M6 f6 (ix3 0 R' d) * rd M7 f7 (ix3 0 R' kv)) :
    Given b l K (ldX M2 f2) (ldKs i M11 (now11 c i M5 M11 f5 f11)) (ldBias M14 (now14 c i M14 f14)) (ldQ i M10 (now10 c i M3 M10 f3 f10)) V d
      (fun k e => rd M4 f4 (ix3 0 ⟨k % 640, Nat.mod_lt _ (by omega)⟩ e))
      (fun e => rd M2 f2 (ix3 0 ⟨pos b l.val % 640, Nat.mod_lt _ (by omega)⟩ ⟨(128 * ((4 * b + l.val / 32) % 5) + e.val) % 640, Nat.mod_lt _ (by omega)⟩))
      (fun k => rd M5 f5 (ix3 0 ⟨k % 640, Nat.mod_lt _ (by omega)⟩ kv))
      (rd M3 f3 (ix3 0 ⟨pos b l.val % 640, Nat.mod_lt _ (by omega)⟩ ⟨(5 * kv.val + (4 * b + l.val / 32) % 5) % 40, Nat.mod_lt _ (by omega)⟩) * scale2)
      (fun k => rd M6 f6 (ix3 0 ⟨k % 640, Nat.mod_lt _ (by omega)⟩ d) * rd M7 f7 (ix3 0 ⟨k % 640, Nat.mod_lt _ (by omega)⟩ kv)) := by
  have hl := l.isLt
  have hk := kv.isLt
  have hp : pos b l.val < 640 := by unfold pos; omega
  constructor
  · intro R e
    have := R.isLt
    exact hK R _ e (Nat.mod_eq_of_lt (by omega))
  · intro e
    have := e.isLt
    exact ldX_apply M2 f2 _ _ e _ _ (by show pos b l.val % 640 = _ + l.val % 32; unfold pos; omega)
      (by show (128 * ((4 * b + l.val / 32) % 5) + e.val) % 640 = _; omega)
  · intro R
    refine (ldKs_apply i M11 _ _ h11 kv hkv R l).trans (congrArg (rd M5 f5) ?_)
    congr 1
    exact Fin.ext (Nat.mod_eq_of_lt R.isLt).symm
  · intro j r hj
    exact ldBias_apply M14 _ h14 b j hj r l
  · exact ldQ_apply i M10 _ _ h10 b hb l _ _ (Nat.mod_eq_of_lt hp) (by
      show (5 * kv.val + (4 * b + l.val / 32) % 5) % 40 = _
      rw [← hkv]
      have : (4 * b + l.val / 32) % 5 < 5 := Nat.mod_lt _ (by omega)
      omega)
  · intro R
    have := R.isLt
    exact hV R _ (Nat.mod_eq_of_lt (by omega))

include h10 h11 h12 h14 hkv hpos in
/-- The output of pair `p` at an element is the attention output of the lane's query and head. -/
theorem outAt_apply (p : ℕ) (hp : p < 12) (q : ℕ) (hq : q < 2) (l d : Fin 128) (C : Fin 256) (hC : C.val = 128 * q + l.val) :
    outAt c i M2 M3 M4 M5 M6 M7 M10 M11 M12 M13 M14 f2 f3 f4 f5 f6 f7 f10 f11 f12 f14 p (ix2 d C)
      = attB (rd M2 f2) (rd M3 f3) (rd M4 f4) (rd M5 f5) (rd M6 f6) (rd M7 f7) kv (pos (2 * p + q) l.val) ((4 * (2 * p + q) + l.val / 32) % 5) d := by
  unfold outAt
  by_cases h : p = 11
  · subst h
    show outPair (n := 18) 11 _ _ _ _ _ _ (ix2 d C) = _
    refine outPair_apply (n := 18) 11 _ _ _ _ _ _ q hq l d _ _ _ _ _ (by unfold lastTile; omega) (by omega) (hpos _ _)
      (given i M2 M3 M4 M5 M6 M7 M10 M11 M14 f2 f3 f4 f5 f6 f7 f10 f11 f14 h10 h11 h14 kv hkv (by omega) _ _ (2 * 11 + q) (by omega) l d ?_ ?_) C hC
    · intro R R' e hR
      rw [show R = R' from Fin.ext hR.symm]
      exact ldK_apply M4 f4 R' e
    · intro R R' hR
      exact vals_apply i M6 M7 M12 M13 f6 f7 f12 _ h12 kv hkv 18 _ d R R' hR
  · rw [show Nat.beq p 11 = false from Bool.eq_false_iff.2 fun hh => h (Nat.eq_of_beq_eq_true hh)]
    show outPair (n := ((8 * p + 7) / 5 - 1) % 19) p _ _ _ _ _ _ (ix2 d C) = _
    have hm : ((8 * p + 7) / 5 - 1) % 19 = (8 * p + 7) / 5 - 1 := Nat.mod_eq_of_lt (by omega)
    refine outPair_apply (n := ((8 * p + 7) / 5 - 1) % 19) p _ _ _ _ _ _ q hq l d _ _ _ _ _ (by rw [hm]; unfold lastTile; omega) (by omega) (hpos _ _)
      (given i M2 M3 M4 M5 M6 M7 M10 M11 M14 f2 f3 f4 f5 f6 f7 f10 f11 f14 h10 h11 h14 kv hkv (by omega) _ _ (2 * p + q) (by omega) l d ?_ ?_) C hC
    · intro R R' e hR
      unfold keys
      exact (block_apply (ldK M4 f4) _ R e R' e (by omega) (by omega)).trans (ldK_apply M4 f4 R' e)
    · intro R R' hR
      exact vals_apply i M6 M7 M12 M13 f6 f7 f12 _ h12 kv hkv _ _ d R R' hR

include h10 h11 h12 h14 hkv hpos in
/-- The output of the last, single block at an element is the attention output of the lane's query and head. -/
theorem outEnd_apply (l d : Fin 128) :
    outEnd c i M2 M3 M4 M5 M6 M7 M10 M11 M12 M13 M14 f2 f3 f4 f5 f6 f7 f10 f11 f12 f14 (ix2 d l)
      = attB (rd M2 f2) (rd M3 f3) (rd M4 f4) (rd M5 f5) (rd M6 f6) (rd M7 f7) kv (pos 24 l.val) ((4 * 24 + l.val / 32) % 5) d := by
  unfold outEnd
  refine outLast_apply _ _ _ _ _ _ l d _ _ _ _ _ (hpos _ _)
    (given i M2 M3 M4 M5 M6 M7 M10 M11 M14 f2 f3 f4 f5 f6 f7 f10 f11 f14 h10 h11 h14 kv hkv (by omega) _ _ 24 (by omega) l d ?_ ?_)
  · intro R R' e hR
    rw [show R = R' from Fin.ext hR.symm]
    exact ldK_apply M4 f4 R' e
  · intro R R' hR
    exact vals_apply i M6 M7 M12 M13 f6 f7 f12 _ h12 kv hkv 18 _ d R R' hR

include h10 h11 h12 h14 hkv hpos in
/-- The codes of unit `u` are those of the attention outputs of its queries. -/
theorem codeOf_apply (u : ℕ) (hu : u < 100) (q : Fin 32) (d : Fin 128) :
    codeOf c i M2 M3 M4 M5 M6 M7 M10 M11 M12 M13 M14 f2 f3 f4 f5 f6 f7 f10 f11 f12 f14 u (ix3 0 q d)
      = codeVal (attB (rd M2 f2) (rd M3 f3) (rd M4 f4) (rd M5 f5) (rd M6 f6) (rd M7 f7) kv (32 * (u / 5) + q.val) (u % 5)) d := by
  have hq := q.isLt
  have hd := d.isLt
  obtain ⟨l, hl⟩ : ∃ l : Fin 128, l.val = 32 * (u % 4) + q.val := ⟨⟨_, by omega⟩, rfl⟩
  have e1 : pos (u / 4) l.val = 32 * (u / 5) + q.val := by unfold pos; omega
  have e2 : (4 * (u / 4) + l.val / 32) % 5 = u % 5 := by omega
  unfold codeOf codeVal expoVal
  by_cases h : 96 ≤ u
  · rw [show Nat.ble 96 u = true from Nat.ble_eq_true_of_le h]
    have hb : u / 4 = 24 := by omega
    rw [hb] at e1 e2
    refine (piece_apply (k := 0) _ 0 (u % 4) (by omega) (by omega) (by omega) q d l (by omega)).trans ?_
    have e3 : ∀ d' : Fin 128, outEnd c i M2 M3 M4 M5 M6 M7 M10 M11 M12 M13 M14 f2 f3 f4 f5 f6 f7 f10 f11 f12 f14 (ix2 d' l) = _ := fun d' =>
      outEnd_apply i M2 M3 M4 M5 M6 M7 M10 M11 M12 M13 M14 f2 f3 f4 f5 f6 f7 f10 f11 f12 f14 h10 h11 h12 h14 hpos kv hkv l d'
    rw [← e1, ← e2]
    exact congrArg₂ code (e3 d) (congrArg expo8 (funext fun j => e3 _))
  · rw [show Nat.ble 96 u = false from Bool.eq_false_iff.2 fun hh => h (Nat.le_of_ble_eq_true hh)]
    have hb : u / 4 = 2 * (u / 8) + u / 4 % 2 := by omega
    rw [hb] at e1 e2
    obtain ⟨C, hC⟩ : ∃ C : Fin 256, C.val = 128 * (u / 4 % 2) + l.val := ⟨⟨_, by have := l.isLt; omega⟩, rfl⟩
    refine (piece_apply (k := 1) _ (u / 4 % 2) (u % 4) (by omega) (by omega) (by omega) q d C (by omega)).trans ?_
    have e3 : ∀ d' : Fin 128, outAt c i M2 M3 M4 M5 M6 M7 M10 M11 M12 M13 M14 f2 f3 f4 f5 f6 f7 f10 f11 f12 f14 (u / 8) (ix2 d' C) = _ := fun d' =>
      outAt_apply i M2 M3 M4 M5 M6 M7 M10 M11 M12 M13 M14 f2 f3 f4 f5 f6 f7 f10 f11 f12 f14 h10 h11 h12 h14 hpos kv hkv (u / 8) (by omega) (u / 4 % 2) (by omega) l d' C hC
    rw [← e1, ← e2]
    exact congrArg₂ code (e3 d) (congrArg expo8 (funext fun j => e3 _))

include h10 h11 h12 h14 hkv hpos in
/-- The block of codes after the body. -/
theorem codes_apply (n C : Fin 640) :
    rd (c := c) M8 (M8.view.writes (Elt Ideal) f8 (bodyRun.sl.H8_100 c i M2 M3 M4 M5 M6 M7 M10 M11 M12 M13 M14 f2 f3 f4 f5 f6 f7 f10 f11 f12 f14)) (ix3 0 n C)
      = codeVal (attB (rd M2 f2) (rd M3 f3) (rd M4 f4) (rd M5 f5) (rd M6 f6) (rd M7 f7) kv n.val (C.val / 128)) ⟨C.val % 128, Nat.mod_lt _ (by omega)⟩ := by
  have hn := n.isLt
  have hC := C.isLt
  rw [codes_100]
  refine read_listOf M8.view f8 _ 100
    (fun y : S1x640x640.Idx => codeVal (attB (rd M2 f2) (rd M3 f3) (rd M4 f4) (rd M5 f5) (rd M6 f6) (rd M7 f7) kv (y 1).val ((y 2).val / 128)) ⟨(y 2).val % 128, Nat.mod_lt _ (by omega)⟩)
    (fun t ht x => ?_) (ix3 0 n C) (5 * (n.val / 32) + C.val / 128) (by omega)
    (ix3 (0 : Fin 1) (⟨n.val % 32, by omega⟩ : Fin 32) (⟨C.val % 128, by omega⟩ : Fin 128)) (Rect.emb_eq_of_coords _ _ _ fun a => by
      fin_cases a
      · rfl
      · show n.val = 32 * ((5 * (n.val / 32) + C.val / 128) / 5 % 20) + 1 * (n.val % 32); omega
      · show C.val = 128 * ((5 * (n.val / 32) + C.val / 128) % 5) + 1 * (C.val % 128); omega)
  obtain ⟨a, q, d, rfl⟩ : ∃ (a : Fin 1) (q : Fin 32) (d : Fin 128), x = ix3 a q d := ⟨_, _, _, eq_ix3 _⟩
  have hq := q.isLt
  have hd := d.isLt
  obtain rfl : a = 0 := Subsingleton.elim _ _
  refine (codeOf_apply i M2 M3 M4 M5 M6 M7 M10 M11 M12 M13 M14 f2 f3 f4 f5 f6 f7 f10 f11 f12 f14 h10 h11 h12 h14 hpos kv hkv t ht q d).trans ?_
  show _ = codeVal (attB (rd M2 f2) (rd M3 f3) (rd M4 f4) (rd M5 f5) (rd M6 f6) (rd M7 f7) kv (32 * (t / 5 % 20) + 1 * q.val) ((128 * (t % 5) + 1 * d.val) / 128)) ⟨(128 * (t % 5) + 1 * d.val) % 128, _⟩
  rw [show 32 * (t / 5 % 20) + 1 * q.val = 32 * (t / 5) + q.val by omega, show (128 * (t % 5) + 1 * d.val) / 128 = t % 5 by omega]
  exact congrArg _ (Fin.ext (by show d.val = (128 * (t % 5) + 1 * d.val) % 128; omega))

end Cert.KernelIdeal.Body

end
-- ==== Proof.Scales.lean ====
/-
  The exponents of the codes: what the body keeps in its scratch buffer, and the scale block read off it at the last key head.
-/
module

public import proofs.«01_k».proof.Proof.Prologue

@[expose] public section

set_option maxRecDepth 16384

noncomputable section

namespace Cert.KernelIdeal.Body

open Cert.KernelIdeal Cert.KernelIdeal.Gen Cert.KernelIdeal.Pair
open Idealize.ShloMosaic
open Idealize.ShloMosaic.TcCoe

variable {F : FTy → Type} [FloatOps F] [Named F] (c : Dev nD) (i : grid0.Coords)
    (M2 : Memref sig .tc .vmem S1x640x640 .fp8e4m3) (M3 : Memref sig .tc .vmem S1x640x40 .f32)
    (M4 : Memref sig .tc .vmem S1x640x128 .fp8e4m3) (M5 : Memref sig .tc .vmem S1x640x8 .f32)
    (M6 : Memref sig .tc .vmem S1x640x128 .fp8e4m3) (M7 : Memref sig .tc .vmem S1x640x8 .f32)
    (M10 : Memref sig .tc .vmem S4x8x8x640 .f32) (M11 : Memref sig .tc .vmem S8x1x640 .f32)
    (M12 : Memref sig .tc .vmem S8x1x640 .f32) (M13 : Memref sig .tc .vmem S128x640 .bf16)
    (M14 : Memref sig .tc .vmem S5x64x128 .f32) (M15 : Memref sig .tc .vmem S8x5x8x640 .i32)
    (f2 : Bf (F := F) c M2) (f3 : Bf (F := F) c M3) (f4 : Bf (F := F) c M4) (f5 : Bf (F := F) c M5) (f6 : Bf (F := F) c M6)
    (f7 : Bf (F := F) c M7) (f10 : Bf (F := F) c M10) (f11 : Bf (F := F) c M11) (f12 : Bf (F := F) c M12) (f14 : Bf (F := F) c M14)
    (f15 : Bf (F := F) c M15)

/-! ### The exponents -/

/-- The exponents of unit `u`'s block plus 127. -/
def biased (u : ℕ) : IVec (S2 8 128) 32 :=
  bif Nat.ble 96 u then addi (exps (k := 0) (outEnd c i M2 M3 M4 M5 M6 M7 M10 M11 M12 M13 M14 f2 f3 f4 f5 f6 f7 f10 f11 f12 f14)) (all 127#32)
  else addi (exps (k := 1) (outAt c i M2 M3 M4 M5 M6 M7 M10 M11 M12 M13 M14 f2 f3 f4 f5 f6 f7 f10 f11 f12 f14 (u / 8))) (all 127#32)

/-- An integer matrix rotated so that the lanes of unit `u` come to the lanes of its query block. -/
def rolled (e : IVec (S2 8 128) 32) (u : ℕ) : IVec (S2 8 128) 32 :=
  bif Nat.beq ((u / 5 + 3 * (u % 4)) % 4) 0 then e else dynamicRotate 1 (BitVec.ofNat 32 (32 * ((u / 5 + 3 * (u % 4)) % 4))) none e

/-- Where the exponents of unit `u` are kept. -/
def offE (u : ℕ) : Fin 4 → ℕ :=
  ![(Scalar.indexCast (BitVec.ofNat 32 (i 1).val) : Index).toNat, u % 5, 0, 128 * (u / 20 % 5)]

/-- The exponents of a unit lie in their buffer. -/
theorem eIn (u : ℕ) : ∀ a, offE i u a + S1x1x8x128.size a ≤ S8x5x8x640.size a := by
  have h := k0_off1_inb i 0
  intro a; fin_cases a
  · exact h
  · show u % 5 + 1 ≤ 5; omega
  · exact Nat.le_refl 8
  · show 128 * (u / 20 % 5) + 128 ≤ 640; omega

/-- The lanes of unit `u`'s query block. -/
def laneMask (u : ℕ) : IVec S1x1x8x128 1 :=
  shapeCast S1x1x8x128 (cmpi .eq k0_pay431 (broadcast (S2 8 128) (BitVec.ofNat 32 (u / 5 % 4))))

/-- The exponent buffer after the first `u` units. -/
def expBuf (e : ℕ → IVec (S2 8 128) 32) : ℕ → Bf (F := F) c M15
  | 0 => f15
  | u + 1 => (M15.access (Rect.unit (offE i u) S1x1x8x128.size (eIn i u))).write (Elt F) (expBuf e u)
      (shapeCast S1x1x8x128 (rolled (e u) u)) (IVec.on (laneMask u))

/-- The buffer of exponents after the body is that after all 100 units. -/
theorem exp_buf : bodyRun.sl.H15_w100 c i M2 M3 M4 M5 M6 M7 M10 M11 M12 M13 M14 M15 f2 f3 f4 f5 f6 f7 f10 f11 f12 f14 f15
    = expBuf c i M15 f15 (biased c i M2 M3 M4 M5 M6 M7 M10 M11 M12 M13 M14 f2 f3 f4 f5 f6 f7 f10 f11 f12 f14) 100 := rfl

end Cert.KernelIdeal.Body

end
-- ==== Proof.Rows.lean ====
/-
  The exponents the body leaves: the rows of its key head in the scratch buffer, and the block of exponents stored at the last key head.
-/
module

public import proofs.«01_k».proof.Proof.Block
public import proofs.«01_k».proof.Proof.Scales

@[expose] public section

set_option maxRecDepth 16384

noncomputable section

namespace Cert.KernelIdeal.Body

open Cert.KernelIdeal Cert.KernelIdeal.Gen Cert.KernelIdeal.Pair Cert.Soft
open Idealize.ShloMosaic Idealize.ShloMosaic.ValueIdx
open Idealize.ShloMosaic.TcCoe

variable (c : Dev nD) (i : grid0.Coords)
  (M2 : Memref sig .tc .vmem S1x640x640 .fp8e4m3) (M3 : Memref sig .tc .vmem S1x640x40 .f32) (M4 : Memref sig .tc .vmem S1x640x128 .fp8e4m3)
  (M5 : Memref sig .tc .vmem S1x640x8 .f32) (M6 : Memref sig .tc .vmem S1x640x128 .fp8e4m3) (M7 : Memref sig .tc .vmem S1x640x8 .f32)
  (M10 : Memref sig .tc .vmem S4x8x8x640 .f32) (M11 M12 : Memref sig .tc .vmem S8x1x640 .f32) (M13 : Memref sig .tc .vmem S128x640 .bf16)
  (M14 : Memref sig .tc .vmem S5x64x128 .f32) (M15 : Memref sig .tc .vmem S8x5x8x640 .i32)
  (f2 : Bf (F := Ideal) c M2) (f3 : Bf (F := Ideal) c M3) (f4 : Bf (F := Ideal) c M4) (f5 : Bf (F := Ideal) c M5) (f6 : Bf (F := Ideal) c M6)
  (f7 : Bf (F := Ideal) c M7) (f10 : Bf (F := Ideal) c M10) (f11 : Bf (F := Ideal) c M11) (f12 : Bf (F := Ideal) c M12)
  (f14 : Bf (F := Ideal) c M14) (f15 : Bf (F := Ideal) c M15)

variable {c}

/-! ### The stores into the scratch buffer -/

/-- A mask's set holds the indices where it is 1. -/
theorem mem_on {S : Shape} (m : IVec S 1) (x : S.Idx) : x ∈ IVec.on m ↔ m x = 1 := by simp [IVec.on]

/-- A rotated matrix of exponents at an element. -/
theorem rolled_apply (e : IVec (S2 8 128) 32) (u : ℕ) (r : Fin 8) (l : Fin 128) :
    rolled e u (ix2 r l) = e (ix2 r (⟨(l.val + 128 - 32 * ((u / 5 + 3 * (u % 4)) % 4)) % 128, Nat.mod_lt _ (by omega)⟩ : Fin 128)) := by
  have hl := l.isLt
  unfold rolled
  by_cases h0 : (u / 5 + 3 * (u % 4)) % 4 = 0
  · rw [show Nat.beq ((u / 5 + 3 * (u % 4)) % 4) 0 = true from by rw [h0]; rfl]
    show e (ix2 r l) = _
    congr 2
    exact Fin.ext (by show l.val = (l.val + 128 - 32 * ((u / 5 + 3 * (u % 4)) % 4)) % 128; omega)
  · rw [show Nat.beq ((u / 5 + 3 * (u % 4)) % 4) 0 = false from Bool.eq_false_iff.2 fun hh => h0 (Nat.eq_of_beq_eq_true hh)]
    show (dynamicRotate 1 (BitVec.ofNat 32 (32 * ((u / 5 + 3 * (u % 4)) % 4))) none e) (ix2 r l) = _
    refine dynamicRotate_apply 1 _ _ _ (ix2 r l) _ fun a => ?_
    fin_cases a
    · rfl
    · show (l.val + 128 - 32 * ((u / 5 + 3 * (u % 4)) % 4)) % 128 = (l.val + 128 - (BitVec.ofNat 32 (32 * ((u / 5 + 3 * (u % 4)) % 4))).toNat % 128) % 128
      rw [BitVec.toNat_ofNat]
      have := Nat.mod_lt (u / 5 + 3 * (u % 4)) (show 0 < 4 by omega)
      omega

/-- A matrix viewed with two leading axes of length one, at an element. -/
theorem cast4_apply {α : Type} (x : (S2 8 128).Idx → α) (h : (S2 8 128).ShapeCasts S1x1x8x128) (r : Fin 8) (l : Fin 128) :
    shapeCast S1x1x8x128 x h (ix4 (0 : Fin 1) (0 : Fin 1) r l) = x (ix2 r l) :=
  shapeCast_apply x h _ _ (by
    rw [show (Shape.rowMajor (S2 8 128) (ix2 r l)).val = 128 * r.val + l.val by rw [Shape.rowMajor_val_two]; simp [ix2]; omega,
      show (Shape.rowMajor S1x1x8x128 (ix4 (0 : Fin 1) (0 : Fin 1) r l)).val = 128 * r.val + l.val by rw [Shape.rowMajor_val_four]; simp [ix4]; omega])

/-- The mask of lanes selects the lanes of the unit's queries. -/
theorem laneMask_iff (u : ℕ) (r : Fin 8) (l : Fin 128) : laneMask u (ix4 (0 : Fin 1) (0 : Fin 1) r l) = 1#1 ↔ l.val / 32 = u / 5 % 4 := by
  unfold laneMask
  rw [cast4_apply]
  show IntOp.cmpi .eq (k0_pay431 (ix2 r l)) (BitVec.ofNat 32 (u / 5 % 4)) = 1#1 ↔ _
  rw [unit_eq]
  have hl : l.val / 32 < 4 := by omega
  have hu : u / 5 % 4 < 4 := by omega
  generalize l.val / 32 = a at *
  generalize u / 5 % 4 = b at *
  interval_cases a <;> interval_cases b <;> decide

/-- The unit that stores the exponents of head `h` and query `n`. -/
def unitOf (h n : ℕ) : ℕ := 5 * (n / 32) + h

/-- One store: the elements of the unit's queries take the unit's exponents, the others stay. -/
theorem expBuf_succ (e : ℕ → IVec (S2 8 128) 32) (u : ℕ) (hu : u < 100) (k : Fin 8) (h : Fin 5) (r : Fin 8) (n : Fin 640) :
    rd (c := c) M15 (expBuf c i M15 f15 e (u + 1)) (ix4 k h r n)
      = if k.val = (i 1).val ∧ u = unitOf h.val n.val then e u (ix2 r ⟨(32 * (u % 4) + n.val % 32) % 128, Nat.mod_lt _ (by omega)⟩)
        else rd (c := c) M15 (expBuf c i M15 f15 e u) (ix4 k h r n) := by
  have hn := n.isLt
  have hh := h.isLt
  have hv : ∀ (a b : Fin 1) (r' : Fin 8) (l : Fin 128), (∀ z, (((Rect.unit (s := S8x5x8x640) (offE i u) S1x1x8x128.size (eIn i u)).emb (ix4 a b r' l) : S8x5x8x640.Idx) z).val
      = ![(i 1).val, u % 5, r'.val, 128 * (u / 20 % 5) + l.val] z) := by
    intro a b r' l z
    have ha := a.isLt
    have hb := b.isLt
    rw [Rect.emb_apply]
    have hd := head_val i
    fin_cases z
    · show (Scalar.indexCast (BitVec.ofNat 32 (i 1).val) : Index).toNat + 1 * a.val = (i 1).val; omega
    · show u % 5 + 1 * b.val = u % 5; omega
    · show 0 + 1 * r'.val = r'.val; omega
    · show 128 * (u / 20 % 5) + 1 * l.val = 128 * (u / 20 % 5) + l.val; omega
  by_cases hc : k.val = (i 1).val ∧ u = unitOf h.val n.val
  · rw [if_pos hc]
    obtain ⟨h1, h2⟩ := hc
    unfold unitOf at h2
    have hx : (Rect.unit (s := S8x5x8x640) (offE i u) S1x1x8x128.size (eIn i u)).emb (ix4 (0 : Fin 1) (0 : Fin 1) r (⟨n.val % 128, Nat.mod_lt _ (by omega)⟩ : Fin 128)) = ix4 k h r n := by
      funext z
      apply Fin.ext
      rw [hv]
      fin_cases z
      · exact h1.symm
      · show u % 5 = h.val; omega
      · rfl
      · show 128 * (u / 20 % 5) + n.val % 128 = n.val; omega
    rw [← hx]
    refine (View.read_slice_write_emb _ _ _ ((mem_on _ _).2 ((laneMask_iff u r _).2 ?_))).trans ?_
    · show n.val % 128 / 32 = u / 5 % 4; omega
    · rw [cast4_apply, rolled_apply]
      congr 2
      exact Fin.ext (by
        show (n.val % 128 + 128 - 32 * ((u / 5 + 3 * (u % 4)) % 4)) % 128 = (32 * (u % 4) + n.val % 32) % 128
        have e1 : u / 5 = n.val / 32 := by omega
        rw [e1]
        omega)
  · rw [if_neg hc]
    refine View.read_slice_write_of_not_mem _ _ _ _ fun hm => hc ?_
    obtain ⟨x, hx, he⟩ := Finset.mem_map.mp hm
    obtain ⟨a, b, r', l, rfl⟩ : ∃ (a b : Fin 1) (r' : Fin 8) (l : Fin 128), x = ix4 a b r' l := ⟨_, _, _, _, eq_ix4 _⟩
    obtain rfl : a = 0 := Subsingleton.elim _ _
    obtain rfl : b = 0 := Subsingleton.elim _ _
    have hl := l.isLt
    have hm' := (laneMask_iff u r' l).1 ((mem_on _ _).1 hx)
    have e0 := hv 0 0 r' l 0
    have e1 := hv 0 0 r' l 1
    have e3 := hv 0 0 r' l 3
    rw [he] at e0 e1 e3
    have e0' : k.val = (i 1).val := e0
    have e1' : h.val = u % 5 := e1
    have e3' : n.val = 128 * (u / 20 % 5) + l.val := e3
    refine ⟨e0', ?_⟩
    unfold unitOf
    omega

/-- After `u` stores: the units stored so far hold their exponents, all else is as it was. -/
theorem expBuf_apply (e : ℕ → IVec (S2 8 128) 32) (k : Fin 8) (h : Fin 5) (r : Fin 8) (n : Fin 640) : ∀ u : ℕ, u ≤ 100 →
    rd (c := c) M15 (expBuf c i M15 f15 e u) (ix4 k h r n)
      = if k.val = (i 1).val ∧ unitOf h.val n.val < u then
          e (unitOf h.val n.val) (ix2 r ⟨(32 * (unitOf h.val n.val % 4) + n.val % 32) % 128, Nat.mod_lt _ (by omega)⟩)
        else rd (c := c) M15 f15 (ix4 k h r n)
  | 0, _ => by rw [if_neg (by omega)]; rfl
  | u + 1, hu => by
    rw [expBuf_succ i M15 f15 e u (by omega), expBuf_apply e k h r n u (by omega)]
    by_cases h1 : k.val = (i 1).val
    · by_cases h2 : u = unitOf h.val n.val
      · subst h2
        rw [if_pos ⟨h1, rfl⟩, if_pos ⟨h1, Nat.lt_succ_self _⟩]
      · rw [if_neg (fun hh => h2 hh.2)]
        by_cases h3 : unitOf h.val n.val < u
        · rw [if_pos ⟨h1, h3⟩, if_pos ⟨h1, by omega⟩]
        · rw [if_neg (fun hh => h3 hh.2), if_neg (fun hh => by have := hh.2; omega)]
    · rw [if_neg (fun hh => h1 hh.1), if_neg (fun hh => h1 hh.1), if_neg (fun hh => h1 hh.1)]

/-! ### The exponents of a unit -/

/-- The biased exponent of block `b` of 32 columns of an attention output. -/
def bexp (o : Fin 128 → EReal) (b : Fin 4) : BitVec 32 := IntOp.addi (expoVal o ⟨32 * b.val, by omega⟩) 127#32

/-- The row of the scratch buffer where the exponent of head `h`, query `n` and block `b` lies. -/
def rowOf (h : Fin 5) (n : Fin 640) (b : Fin 4) : Fin 8 := ⟨4 * (unitOf h.val n.val / 4 % 2) + b.val, by omega⟩

section Unit

variable (h10 : Ready10 M10 (now10 c i M3 M10 f3 f10) (rd M3 f3)) (h11 : ReadyRow M11 (now11 c i M5 M11 f5 f11) (rd M5 f5))
  (h12 : ReadyRow M12 (now12 c i M7 M12 f7 f12) (rd M7 f7)) (h14 : Ready14 M14 (now14 c i M14 f14))
  (hpos : ∀ (n : Fin 640) (H : Fin 40), 0 < rd M3 f3 (ix3 0 n H) * scale2)
  (kv : Fin 8) (hkv : kv.val = (i 1).val)

include h10 h11 h12 h14 hkv hpos in
/-- The exponents of a unit are those of the attention outputs of its queries. -/
theorem biased_apply (h : Fin 5) (n : Fin 640) (b : Fin 4) :
    biased c i M2 M3 M4 M5 M6 M7 M10 M11 M12 M13 M14 f2 f3 f4 f5 f6 f7 f10 f11 f12 f14 (unitOf h.val n.val)
        (ix2 (rowOf h n b) ⟨(32 * (unitOf h.val n.val % 4) + n.val % 32) % 128, Nat.mod_lt _ (by omega)⟩)
      = bexp (attB (rd M2 f2) (rd M3 f3) (rd M4 f4) (rd M5 f5) (rd M6 f6) (rd M7 f7) kv n.val h.val) b := by
  have hn := n.isLt
  have hh := h.isLt
  have hb4 := b.isLt
  obtain ⟨u, hu⟩ : ∃ u, u = unitOf h.val n.val := ⟨_, rfl⟩
  have hu' : u = 5 * (n.val / 32) + h.val := hu
  obtain ⟨r, hr⟩ : ∃ r : Fin 8, r = rowOf h n b := ⟨_, rfl⟩
  have hr' : r.val = 4 * (u / 4 % 2) + b.val := by rw [hr, hu]; rfl
  rw [← hu, ← hr]
  obtain ⟨l, hl⟩ : ∃ l : Fin 128, l = (⟨(32 * (u % 4) + n.val % 32) % 128, Nat.mod_lt _ (by omega)⟩ : Fin 128) := ⟨_, rfl⟩
  rw [← hl]
  have hl' : l.val = 32 * (u % 4) + n.val % 32 := by rw [hl]; show (32 * (u % 4) + n.val % 32) % 128 = _; omega
  have e1 : pos (u / 4) l.val = n.val := by unfold pos; omega
  have e2 : (4 * (u / 4) + l.val / 32) % 5 = h.val := by omega
  unfold biased bexp expoVal
  by_cases hc : 96 ≤ u
  · rw [show Nat.ble 96 u = true from Nat.ble_eq_true_of_le hc]
    have hb : u / 4 = 24 := by omega
    rw [hb] at e1 e2
    have e3 : ∀ d' : Fin 128, outEnd c i M2 M3 M4 M5 M6 M7 M10 M11 M12 M13 M14 f2 f3 f4 f5 f6 f7 f10 f11 f12 f14 (ix2 d' l) = _ := fun d' =>
      outEnd_apply i M2 M3 M4 M5 M6 M7 M10 M11 M12 M13 M14 f2 f3 f4 f5 f6 f7 f10 f11 f12 f14 h10 h11 h12 h14 hpos kv hkv l d'
    rw [e1, e2] at e3
    show IntOp.addi (exps (k := 0) (outEnd c i M2 M3 M4 M5 M6 M7 M10 M11 M12 M13 M14 f2 f3 f4 f5 f6 f7 f10 f11 f12 f14) (ix2 r l)) 127#32 = _
    rw [exps_apply (k := 0) _ r l l (by omega)]
    refine congrArg (fun z => IntOp.addi z 127#32) (congrArg expo8 (funext fun j => (e3 _).trans (congrArg _ (Fin.ext ?_))))
    show 32 * (r.val % 4) + j.val = 32 * (32 * b.val / 32) + j.val
    omega
  · rw [show Nat.ble 96 u = false from Bool.eq_false_iff.2 fun hh => hc (Nat.le_of_ble_eq_true hh)]
    have hb : u / 4 = 2 * (u / 8) + u / 4 % 2 := by omega
    rw [hb] at e1 e2
    obtain ⟨C, hC⟩ : ∃ C : Fin 256, C.val = 128 * (u / 4 % 2) + l.val := ⟨⟨_, by have := l.isLt; omega⟩, rfl⟩
    have e3 : ∀ d' : Fin 128, outAt c i M2 M3 M4 M5 M6 M7 M10 M11 M12 M13 M14 f2 f3 f4 f5 f6 f7 f10 f11 f12 f14 (u / 8) (ix2 d' C) = _ := fun d' =>
      outAt_apply i M2 M3 M4 M5 M6 M7 M10 M11 M12 M13 M14 f2 f3 f4 f5 f6 f7 f10 f11 f12 f14 h10 h11 h12 h14 hpos kv hkv (u / 8) (by omega) (u / 4 % 2) (by omega) l d' C hC
    rw [e1, e2] at e3
    show IntOp.addi (exps (k := 1) (outAt c i M2 M3 M4 M5 M6 M7 M10 M11 M12 M13 M14 f2 f3 f4 f5 f6 f7 f10 f11 f12 f14 (u / 8)) (ix2 r l)) 127#32 = _
    rw [exps_apply (k := 1) _ r l C (by omega)]
    refine congrArg (fun z => IntOp.addi z 127#32) (congrArg expo8 (funext fun j => (e3 _).trans (congrArg _ (Fin.ext ?_))))
    show 32 * (r.val % 4) + j.val = 32 * (32 * b.val / 32) + j.val
    omega

/-- The buffer of exponents after the body. -/
abbrev buf15 : Bf (F := Ideal) c M15 :=
  bodyRun.sl.H15_w100 c i M2 M3 M4 M5 M6 M7 M10 M11 M12 M13 M14 M15 f2 f3 f4 f5 f6 f7 f10 f11 f12 f14 f15

include h10 h11 h12 h14 hkv hpos in
/-- After the body the rows of its key head hold the biased exponents of the attention outputs. -/
theorem rows_new (h : Fin 5) (n : Fin 640) (b : Fin 4) :
    rd (c := c) M15 (buf15 i M2 M3 M4 M5 M6 M7 M10 M11 M12 M13 M14 M15 f2 f3 f4 f5 f6 f7 f10 f11 f12 f14 f15) (ix4 kv h (rowOf h n b) n)
      = bexp (attB (rd M2 f2) (rd M3 f3) (rd M4 f4) (rd M5 f5) (rd M6 f6) (rd M7 f7) kv n.val h.val) b := by
  have hn := n.isLt
  have hh := h.isLt
  unfold buf15
  rw [exp_buf, expBuf_apply i M15 f15 _ _ _ _ _ 100 (le_refl _), if_pos ⟨hkv, by unfold unitOf; omega⟩]
  exact biased_apply i M2 M3 M4 M5 M6 M7 M10 M11 M12 M13 M14 f2 f3 f4 f5 f6 f7 f10 f11 f12 f14 h10 h11 h12 h14 hpos kv hkv h n b

end Unit

/-- The rows of the other key heads are as they were. -/
theorem rows_old (k : Fin 8) (hk : k.val ≠ (i 1).val) (h : Fin 5) (r : Fin 8) (n : Fin 640) :
    rd (c := c) M15 (buf15 i M2 M3 M4 M5 M6 M7 M10 M11 M12 M13 M14 M15 f2 f3 f4 f5 f6 f7 f10 f11 f12 f14 f15) (ix4 k h r n)
      = rd (c := c) M15 f15 (ix4 k h r n) := by
  unfold buf15
  rw [exp_buf, expBuf_apply i M15 f15 _ _ _ _ _ 100 (le_refl _), if_neg fun hh => hk hh.1]

/-! ### The block of exponents -/

/-- The queries of head `h` whose block is the second of its pair. -/
def oddRow (h : ℕ) : IVec S1x640 1 :=
  match h with
  | 0 => bodyRun.sl.v12866_1
  | 1 => bodyRun.sl.v12919_1
  | 2 => bodyRun.sl.v12972_1
  | 3 => bodyRun.sl.v13025_1
  | _ => bodyRun.sl.v13078_1

/-- The condition on the queries, read: the unit's block is the second of its pair. -/
theorem oddRow_apply : ∀ (h : Fin 5) (n : Fin 640), oddRow h.val (ix2 (0 : Fin 1) n) = BitVec.ofBool (unitOf h.val n.val / 4 % 2 == 1) := by decide +kernel

/-- The rows of a head lie in the buffer. -/
theorem headIn (j : ℕ) : ∀ a, (![j / 5 % 8, j % 5, 0, 0] : Fin 4 → ℕ) a + S1x1x8x640.size a ≤ S8x5x8x640.size a := by
  intro a; fin_cases a
  · show j / 5 % 8 + 1 ≤ 8; omega
  · show j % 5 + 1 ≤ 5; omega
  · exact Nat.le_refl 8
  · exact Nat.le_refl 640

/-- The rows of a head have the elements of a matrix of eight rows. -/
theorem casts_head : S1x1x8x640.ShapeCasts (S2 8 640) := by decide

/-- The rows of head `j` in the buffer. -/
def headRows (g : Bf (F := Ideal) c M15) (j : ℕ) : IVec (S2 8 640) 32 :=
  shapeCast (S2 8 640) (M15.view.readAt (Elt Ideal) (Rect.unit (s := S8x5x8x640) ![j / 5 % 8, j % 5, 0, 0] S1x1x8x640.size (headIn j)).toLoadRect g) casts_head

/-- The first four rows lie in the matrix. -/
theorem slices_lo : (S2 8 640).Slices ![0, 0] (S2 4 640) := by decide
/-- The last four rows lie in the matrix. -/
theorem slices_hi : (S2 8 640).Slices ![4, 0] (S2 4 640) := by decide
/-- A row spreads over four rows. -/
theorem bcast_odd : S1x640.Broadcasts (S2 4 640) := by decide

/-- The four exponents of head `j` at each query. -/
def headExps (g : Bf (F := Ideal) c M15) (j : ℕ) : IVec (S2 4 640) 32 :=
  select (broadcastTo (S2 4 640) (oddRow (j % 5)) bcast_odd) (extractStridedSlice (S2 4 640) ![4, 0] (headRows M15 g j) slices_hi)
    (extractStridedSlice (S2 4 640) ![0, 0] (headRows M15 g j) slices_lo)

/-- What the last key head stores, before it is turned over: the exponents of the 40 heads, stacked. -/
theorem heads_stack : bodyRun.sl.v14936 c i M2 M3 M4 M5 M6 M7 M10 M11 M12 M13 M14 M15 f2 f3 f4 f5 f6 f7 f10 f11 f12 f14 f15
    = stack (w := 4) (headExps M15 (buf15 i M2 M3 M4 M5 M6 M7 M10 M11 M12 M13 M14 M15 f2 f3 f4 f5 f6 f7 f10 f11 f12 f14 f15)) 38 := rfl

/-- The rows of a head at an element. -/
theorem headRows_apply (g : Bf (F := Ideal) c M15) (j : ℕ) (r : Fin 8) (n : Fin 640) :
    headRows M15 g j (ix2 r n) = rd (c := c) M15 g (ix4 (⟨j / 5 % 8, Nat.mod_lt _ (by omega)⟩ : Fin 8) (⟨j % 5, Nat.mod_lt _ (by omega)⟩ : Fin 5) r n) := by
  unfold headRows
  rw [shapeCast_apply _ _ (ix2 r n) (ix4 (0 : Fin 1) (0 : Fin 1) r n) (by
    rw [show (Shape.rowMajor (S2 8 640) (ix2 r n)).val = 640 * r.val + n.val by rw [Shape.rowMajor_val_two]; simp [ix2]; omega,
      show (Shape.rowMajor S1x1x8x640 (ix4 (0 : Fin 1) (0 : Fin 1) r n)).val = 640 * r.val + n.val by rw [Shape.rowMajor_val_four]; simp [ix4]; omega])]
  exact load_apply M15 g _ _ _ _ _ fun a => by
    fin_cases a
    · rfl
    · rfl
    · show r.val = 0 + r.val; omega
    · show n.val = 0 + n.val; omega

/-- The exponents of a head at an element are read from the row where they lie. -/
theorem headExps_apply (g : Bf (F := Ideal) c M15) (j : ℕ) (b : Fin 4) (n : Fin 640) :
    headExps M15 g j (ix2 b n) = rd (c := c) M15 g (ix4 (⟨j / 5 % 8, Nat.mod_lt _ (by omega)⟩ : Fin 8) (⟨j % 5, Nat.mod_lt _ (by omega)⟩ : Fin 5)
      (rowOf ⟨j % 5, Nat.mod_lt _ (by omega)⟩ n b) n) := by
  have hb := b.isLt
  unfold headExps
  show Scalar.select (broadcastTo (S2 4 640) (oddRow (j % 5)) bcast_odd (ix2 b n)) (extractStridedSlice (S2 4 640) ![4, 0] (headRows M15 g j) slices_hi (ix2 b n))
    (extractStridedSlice (S2 4 640) ![0, 0] (headRows M15 g j) slices_lo (ix2 b n)) = _
  rw [bcast_apply, oddRow_apply ⟨j % 5, Nat.mod_lt _ (by omega)⟩ n,
    block_apply (headRows M15 g j) slices_hi b n (⟨4 + b.val, by omega⟩ : Fin 8) n rfl (by omega),
    block_apply (headRows M15 g j) slices_lo b n (⟨b.val, by omega⟩ : Fin 8) n (by show b.val = 0 + b.val; omega) (by omega),
    headRows_apply, headRows_apply]
  rcases Nat.mod_two_eq_zero_or_one (unitOf (j % 5) n.val / 4) with hq | hq
  · rw [hq]
    show rd M15 g _ = rd M15 g _
    congr 2
    exact Fin.ext (by show b.val = 4 * (unitOf (j % 5) n.val / 4 % 2) + b.val; omega)
  · rw [hq]
    show rd M15 g _ = rd M15 g _
    congr 2
    exact Fin.ext (by show 4 + b.val = 4 * (unitOf (j % 5) n.val / 4 % 2) + b.val; omega)

/-- The condition of the last part of the body: the key head is 7. -/
theorem last_iff : ∀ i : grid0.Coords, k0_cond2 i = 1#1 ↔ (i 1).val = 7 := by decide +kernel

/-- The stored block at an element: the stacked exponents turned over and cut to a byte. -/
theorem pay_apply (x : IVec S160x640 32) (n : Fin 640) (B : Fin 160) : k0_pay2213 x (ix3 (0 : Fin 1) n B) = (x (ix2 B n)).setWidth 8 := by
  unfold k0_pay2213
  refine (shapeCast_ab_1ab_apply (a := 640) (b := 160) _ _ 0 n B).trans ?_
  exact congrArg (BitVec.setWidth 8) (transpose_ix2_apply (a := 160) (b := 640) x _ n B)

/-- The block of exponents stored at the last key head: what the buffer holds for its head, query and block, cut to a byte. -/
theorem expos_apply (M9 : Memref sig .tc .vmem S1x640x160 .i8) (f9 : Bf (F := Ideal) c M9) (n : Fin 640) (B : Fin 160) :
    rd (c := c) M9 (M9.view.writes (Elt Ideal) f9 [⟨Rect.unit ![0, 0, 0] ![1, 640, 160] inb_S1x640x160_S1x640x160_0_0_0,
        k0_pay2213 (bodyRun.sl.v14936 c i M2 M3 M4 M5 M6 M7 M10 M11 M12 M13 M14 M15 f2 f3 f4 f5 f6 f7 f10 f11 f12 f14 f15)⟩]) (ix3 0 n B)
      = (rd (c := c) M15 (buf15 i M2 M3 M4 M5 M6 M7 M10 M11 M12 M13 M14 M15 f2 f3 f4 f5 f6 f7 f10 f11 f12 f14 f15)
          (ix4 (⟨B.val / 20, by omega⟩ : Fin 8) (⟨B.val / 4 % 5, Nat.mod_lt _ (by omega)⟩ : Fin 5)
            (rowOf ⟨B.val / 4 % 5, Nat.mod_lt _ (by omega)⟩ n ⟨B.val % 4, Nat.mod_lt _ (by omega)⟩) n)).setWidth 8 := by
  have hB := B.isLt
  have h0 := read_listOf M9.view f9 (fun _ => ⟨Rect.unit ![0, 0, 0] ![1, 640, 160] inb_S1x640x160_S1x640x160_0_0_0,
      k0_pay2213 (bodyRun.sl.v14936 c i M2 M3 M4 M5 M6 M7 M10 M11 M12 M13 M14 M15 f2 f3 f4 f5 f6 f7 f10 f11 f12 f14 f15)⟩) 1
    (k0_pay2213 (bodyRun.sl.v14936 c i M2 M3 M4 M5 M6 M7 M10 M11 M12 M13 M14 M15 f2 f3 f4 f5 f6 f7 f10 f11 f12 f14 f15))
    (fun t _ x => congrArg _ (Rect.emb_eq_of_coords _ _ _ fun a => by fin_cases a <;> (show (x _).val = 0 + 1 * (x _).val; omega)).symm)
    (ix3 0 n B) 0 (by omega) (ix3 0 n B) (Rect.emb_eq_of_coords _ _ _ fun a => by fin_cases a <;> (show _ = 0 + 1 * _; rw [Nat.zero_add, Nat.one_mul]))
  refine (show _ = _ from h0).trans ?_
  rw [pay_apply, heads_stack, stack_apply (w := 4) _ 38 B n (B.val / 4) ⟨B.val % 4, by omega⟩ (by show B.val = 4 * (B.val / 4) + B.val % 4; omega), headExps_apply]
  congr 3
  exact Fin.ext (by show B.val / 4 / 5 % 8 = B.val / 20; omega)

end Cert.KernelIdeal.Body

end
-- ==== Proof.Value.lean ====
/-
  The values of the kernel's run: what the body leaves in the blocks of codes and of exponents.
  Between the points of one batch the scratch buffers hold the batch's scales, the mask and the exponents of the key heads done.
-/
module

public import proofs.«01_k».proof.Proof.Rows
public import proofs.«01_k».proof.Proof.KernelIdealFrame
public import Idealize.ShloMosaic.Lib.Pipeline.ArrRel

@[expose] public section

set_option maxRecDepth 16384

noncomputable section

namespace Cert.KernelIdeal.Body

open Cert.KernelIdeal Cert.KernelIdeal.Gen Cert.Soft
open Idealize.ShloMosaic
open Idealize.ShloMosaic.ValueIdx (ix3 ix4)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

variable (m : (ℓ : Loc nD τ sig) → Buf (Elt Ideal) ℓ) (ρ : Dev nD → PrngReg) (c : Dev nD)

/-! ### The blocks of the arguments -/

/-- The arguments as arrays of numbers. -/
abbrev a0 : Arr 3 640 5120 := m ((c.tc : Thread nD τ).loc main_arg0)
/-- The query scales as an array of numbers. -/
abbrev a1 : Arr 3 640 40 := m ((c.tc : Thread nD τ).loc main_arg1)
/-- The keys as an array of numbers. -/
abbrev a2 : Arr 3 640 1024 := m ((c.tc : Thread nD τ).loc main_arg2)
/-- The key scales as an array of numbers. -/
abbrev a3 : Arr 3 640 8 := m ((c.tc : Thread nD τ).loc main_arg3)
/-- The values as an array of numbers. -/
abbrev a4 : Arr 3 640 1024 := m ((c.tc : Thread nD τ).loc main_arg4)
/-- The value scales as an array of numbers. -/
abbrev a5 : Arr 3 640 8 := m ((c.tc : Thread nD τ).loc main_arg5)

/-- The batch of a point. -/
def bat (s : ℕ) : Fin 3 := ⟨s / 8 % 3, Nat.mod_lt _ (by omega)⟩

/-- The block of queries of batch `b` and key head `kv`. -/
def blkQ (x : Arr 3 640 5120) (b : Fin 3) (kv : ℕ) : S1x640x640.Idx → EReal := fun y => x (ix3 b (y 1) ⟨(640 * kv + (y 2).val) % 5120, Nat.mod_lt _ (by omega)⟩)
/-- The block of keys, or of values. -/
def blkK (x : Arr 3 640 1024) (b : Fin 3) (kv : ℕ) : S1x640x128.Idx → EReal := fun y => x (ix3 b (y 1) ⟨(128 * kv + (y 2).val) % 1024, Nat.mod_lt _ (by omega)⟩)
/-- The block of query scales. -/
def blkS (x : Arr 3 640 40) (b : Fin 3) : S1x640x40.Idx → EReal := fun y => x (ix3 b (y 1) (y 2))
/-- The block of key scales, or of value scales. -/
def blkT (x : Arr 3 640 8) (b : Fin 3) : S1x640x8.Idx → EReal := fun y => x (ix3 b (y 1) (y 2))

/-- The block of window 0 at a point, by its batch and key head. -/
theorem index0 : ∀ t : Fin cfg0.N, win0_0.index t = ![t.val / 8 % 3, 0, t.val % 8] := (by decide +kernel : ∀ t : Fin grid0.N, _)
/-- The block of window 1 at a point, by its batch and key head. -/
theorem index1 : ∀ t : Fin cfg0.N, win0_1.index t = ![t.val / 8 % 3, 0, 0] := (by decide +kernel : ∀ t : Fin grid0.N, _)
/-- The block of window 2 at a point, by its batch and key head. -/
theorem index2 : ∀ t : Fin cfg0.N, win0_2.index t = ![t.val / 8 % 3, 0, t.val % 8] := (by decide +kernel : ∀ t : Fin grid0.N, _)
/-- The block of window 3 at a point, by its batch and key head. -/
theorem index3 : ∀ t : Fin cfg0.N, win0_3.index t = ![t.val / 8 % 3, 0, 0] := (by decide +kernel : ∀ t : Fin grid0.N, _)
/-- The block of window 4 at a point, by its batch and key head. -/
theorem index4 : ∀ t : Fin cfg0.N, win0_4.index t = ![t.val / 8 % 3, 0, t.val % 8] := (by decide +kernel : ∀ t : Fin grid0.N, _)
/-- The block of window 5 at a point, by its batch and key head. -/
theorem index5 : ∀ t : Fin cfg0.N, win0_5.index t = ![t.val / 8 % 3, 0, 0] := (by decide +kernel : ∀ t : Fin grid0.N, _)
/-- The block of window 6 at a point, by its batch and key head. -/
theorem index6 : ∀ t : Fin cfg0.N, win0_6.index t = ![t.val / 8 % 3, 0, t.val % 8] := (by decide +kernel : ∀ t : Fin grid0.N, _)
/-- The key head of a point. -/
theorem head_at : ∀ t : Fin cfg0.N, ((grid0.coords t) 1).val = t.val % 8 := (by decide +kernel : ∀ t : Fin grid0.N, _)

/-- The point's block of queries. -/
theorem iblk0 (t : Fin cfg0.N) : iblk m c 0 t = blkQ (a0 m c) (bat t.val) (t.val % 8) := by
  funext y
  blk_simp [iblk]
  refine congrArg (m ((c.tc : Thread nD τ).loc main_arg0)) ?_
  have h2 : (y 2).val < 640 := (y 2).isLt
  have h0 : (y 0).val < 1 := (y 0).isLt
  refine funext fun a => Fin.ext ?_
  fin_cases a <;> blk_simp [index0] <;> simp [bat] <;> omega

/-- The point's block of keys. -/
theorem iblk2 (t : Fin cfg0.N) : iblk m c 2 t = blkK (a2 m c) (bat t.val) (t.val % 8) := by
  funext y
  blk_simp [iblk]
  refine congrArg (m ((c.tc : Thread nD τ).loc main_arg2)) ?_
  have h2 : (y 2).val < 128 := (y 2).isLt
  have h0 : (y 0).val < 1 := (y 0).isLt
  refine funext fun a => Fin.ext ?_
  fin_cases a <;> blk_simp [index2] <;> simp [bat] <;> omega

/-- The point's block of values. -/
theorem iblk4 (t : Fin cfg0.N) : iblk m c 4 t = blkK (a4 m c) (bat t.val) (t.val % 8) := by
  funext y
  blk_simp [iblk]
  refine congrArg (m ((c.tc : Thread nD τ).loc main_arg4)) ?_
  have h2 : (y 2).val < 128 := (y 2).isLt
  have h0 : (y 0).val < 1 := (y 0).isLt
  refine funext fun a => Fin.ext ?_
  fin_cases a <;> blk_simp [index4] <;> simp [bat] <;> omega

/-- The point's block of query scales. -/
theorem iblk1 (t : Fin cfg0.N) : iblk m c 1 t = blkS (a1 m c) (bat t.val) := by
  funext y
  blk_simp [iblk]
  refine congrArg (m ((c.tc : Thread nD τ).loc main_arg1)) ?_
  have h0 : (y 0).val < 1 := (y 0).isLt
  refine funext fun a => Fin.ext ?_
  fin_cases a <;> blk_simp [index1] <;> simp [bat] <;> omega

/-- The point's block of key scales. -/
theorem iblk3 (t : Fin cfg0.N) : iblk m c 3 t = blkT (a3 m c) (bat t.val) := by
  funext y
  blk_simp [iblk]
  refine congrArg (m ((c.tc : Thread nD τ).loc main_arg3)) ?_
  have h0 : (y 0).val < 1 := (y 0).isLt
  refine funext fun a => Fin.ext ?_
  fin_cases a <;> blk_simp [index3] <;> simp [bat] <;> omega

/-- The point's block of value scales. -/
theorem iblk5 (t : Fin cfg0.N) : iblk m c 5 t = blkT (a5 m c) (bat t.val) := by
  funext y
  blk_simp [iblk]
  refine congrArg (m ((c.tc : Thread nD τ).loc main_arg5)) ?_
  have h0 : (y 0).val < 1 := (y 0).isLt
  refine funext fun a => Fin.ext ?_
  fin_cases a <;> blk_simp [index5] <;> simp [bat] <;> omega

/-- The attention output out of the blocks is the one out of the arrays. -/
theorem attB_blocks (x0 : Arr 3 640 5120) (x1 : Arr 3 640 40) (x2 : Arr 3 640 1024) (x3 : Arr 3 640 8) (x4 : Arr 3 640 1024) (x5 : Arr 3 640 8)
    (b : Fin 3) (kv : Fin 8) (n : Fin 640) (h : ℕ) (hh : h < 5) (d : Fin 128) :
    attB (blkQ x0 b kv.val) (blkS x1 b) (blkK x2 b kv.val) (blkT x3 b) (blkK x4 b kv.val) (blkT x5 b) kv n.val h d = attnA x0 x1 x2 x3 x4 x5 b n kv.val h d := by
  have hn : (⟨n.val % 640, Nat.mod_lt _ (by omega)⟩ : Fin 640) = n := Fin.ext (Nat.mod_eq_of_lt n.isLt)
  have hk : (⟨kv.val % 8, Nat.mod_lt _ (by omega)⟩ : Fin 8) = kv := Fin.ext (Nat.mod_eq_of_lt kv.isLt)
  unfold attB attnA
  rw [hn, hk]
  have hq : (fun e : Fin 128 => blkQ x0 b kv.val (ix3 0 n ⟨(128 * h + e.val) % 640, Nat.mod_lt _ (by omega)⟩))
      = fun e : Fin 128 => x0 (ix3 b n ⟨(640 * kv.val + 128 * h + e.val) % 5120, Nat.mod_lt _ (by omega)⟩) := funext fun e =>
    congrArg (fun z => x0 (ix3 b n z)) (Fin.ext (by
      have := e.isLt
      have := kv.isLt
      show (640 * kv.val + (128 * h + e.val) % 640) % 5120 = (640 * kv.val + 128 * h + e.val) % 5120
      omega))
  rw [hq]
  rfl

/-! ### The proof data -/

/-- What the buffer of exponents holds before point `s`: the biased exponents of the batch's key heads done. -/
def Rows (s : ℕ) (f : Bf (F := Ideal) c (Memref.whole cc0_scratch5)) : Prop :=
  ∀ (k : Fin 8) (h : Fin 5) (n : Fin 640) (b : Fin 4), k.val < s % 8 →
    rd (c := c) (Memref.whole cc0_scratch5) f (ix4 k h (rowOf h n b) n)
      = bexp (attnA (a0 m c) (a1 m c) (a2 m c) (a3 m c) (a4 m c) (a5 m c) (bat s) n k.val h.val) b

/-- What the block of exponents holds after point `t`, if it is the last of its batch: the batch's biased exponents as bytes. -/
def Flushed (t : ℕ) (X : S1x640x160.Idx → BitVec 8) : Prop :=
  t % 8 = 7 → ∀ (n : Fin 640) (B : Fin 160), X (ix3 0 n B)
    = (IntOp.addi (expoA (a0 m c) (a1 m c) (a2 m c) (a3 m c) (a4 m c) (a5 m c) (bat t) n B) 127#32).setWidth 8

/-- What the scratch buffers hold before point `s`: within a batch, the batch's scales, the mask and the exponents so far. -/
def Φv (s : ℕ) : sProp 𝕄 :=
  iprop(((∃ f : Bf (F := Ideal) c (Memref.whole cc0_scratch0), ⌜s % 8 ≠ 0 → Ready10 (Memref.whole cc0_scratch0) f (blkS (a1 m c) (bat s))⌝ ∗ pt c (Memref.whole cc0_scratch0) f)
      ∗ (∃ f : Bf (F := Ideal) c (Memref.whole cc0_scratch1), ⌜s % 8 ≠ 0 → ReadyRow (Memref.whole cc0_scratch1) f (blkT (a3 m c) (bat s))⌝ ∗ pt c (Memref.whole cc0_scratch1) f)
      ∗ (∃ f : Bf (F := Ideal) c (Memref.whole cc0_scratch2), ⌜s % 8 ≠ 0 → ReadyRow (Memref.whole cc0_scratch2) f (blkT (a5 m c) (bat s))⌝ ∗ pt c (Memref.whole cc0_scratch2) f)
      ∗ (∃ f : Bf (F := Ideal) c (Memref.whole cc0_scratch3), pt c (Memref.whole cc0_scratch3) f)
      ∗ (∃ f : Bf (F := Ideal) c (Memref.whole cc0_scratch4), ⌜s % 8 ≠ 0 → Ready14 (Memref.whole cc0_scratch4) f⌝ ∗ pt c (Memref.whole cc0_scratch4) f)
      ∗ (∃ f : Bf (F := Ideal) c (Memref.whole cc0_scratch5), ⌜Rows m c s f⌝ ∗ pt c (Memref.whole cc0_scratch5) f)) ∗ ∃ r, prngReg c r)

/-- The proof data of the run: what is left in the blocks of codes and of exponents is those of the attention outputs. -/
def vdat (c : Dev nD) : RDat τ (Elt Ideal) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => ∀ n C : Fin 640, X (ix3 0 n C) = codeA (a0 m c) (a1 m c) (a2 m c) (a3 m c) (a4 m c) (a5 m c) (bat t.val) n ⟨(640 * (t.val % 8) + C.val) % 5120, Nat.mod_lt _ (by omega)⟩
    | ⟨7, _⟩ => Flushed m c t.val X
  Φ s := Φv m c s.val
  q _ := fullShare
  owed _ := 0

/-- The body finds its block of queries. -/
theorem find0 (t : Fin cfg0.N) (Y) (h : (vdat m c).Finds 0 t Y) : Y = blkQ (a0 m c) (bat t.val) (t.val % 8) := by
  obtain ⟨d, hd⟩ := Pipeline.RDat.finds_in_eq_fetched (vdat m c) 0 rfl (fun _ _ _ => rfl) (fun _ _ _ h => h) t Y h
  exact hd.trans ((show (vdat m c).fetched 0 t d = iblk m c 0 t from rfl).trans (iblk0 m c t))

/-- The body finds its block of query scales. -/
theorem find1 (t : Fin cfg0.N) (Y) (h : (vdat m c).Finds 1 t Y) : Y = blkS (a1 m c) (bat t.val) := by
  obtain ⟨d, hd⟩ := Pipeline.RDat.finds_in_eq_fetched (vdat m c) 1 rfl (fun _ _ _ => rfl) (fun _ _ _ h => h) t Y h
  exact hd.trans ((show (vdat m c).fetched 1 t d = iblk m c 1 t from rfl).trans (iblk1 m c t))

/-- The body finds its block of keys. -/
theorem find2 (t : Fin cfg0.N) (Y) (h : (vdat m c).Finds 2 t Y) : Y = blkK (a2 m c) (bat t.val) (t.val % 8) := by
  obtain ⟨d, hd⟩ := Pipeline.RDat.finds_in_eq_fetched (vdat m c) 2 rfl (fun _ _ _ => rfl) (fun _ _ _ h => h) t Y h
  exact hd.trans ((show (vdat m c).fetched 2 t d = iblk m c 2 t from rfl).trans (iblk2 m c t))

/-- The body finds its block of key scales. -/
theorem find3 (t : Fin cfg0.N) (Y) (h : (vdat m c).Finds 3 t Y) : Y = blkT (a3 m c) (bat t.val) := by
  obtain ⟨d, hd⟩ := Pipeline.RDat.finds_in_eq_fetched (vdat m c) 3 rfl (fun _ _ _ => rfl) (fun _ _ _ h => h) t Y h
  exact hd.trans ((show (vdat m c).fetched 3 t d = iblk m c 3 t from rfl).trans (iblk3 m c t))

/-- The body finds its block of values. -/
theorem find4 (t : Fin cfg0.N) (Y) (h : (vdat m c).Finds 4 t Y) : Y = blkK (a4 m c) (bat t.val) (t.val % 8) := by
  obtain ⟨d, hd⟩ := Pipeline.RDat.finds_in_eq_fetched (vdat m c) 4 rfl (fun _ _ _ => rfl) (fun _ _ _ h => h) t Y h
  exact hd.trans ((show (vdat m c).fetched 4 t d = iblk m c 4 t from rfl).trans (iblk4 m c t))

/-- The body finds its block of value scales. -/
theorem find5 (t : Fin cfg0.N) (Y) (h : (vdat m c).Finds 5 t Y) : Y = blkT (a5 m c) (bat t.val) := by
  obtain ⟨d, hd⟩ := Pipeline.RDat.finds_in_eq_fetched (vdat m c) 5 rfl (fun _ _ _ => rfl) (fun _ _ _ h => h) t Y h
  exact hd.trans ((show (vdat m c).fetched 5 t d = iblk m c 5 t from rfl).trans (iblk5 m c t))

/-- The codes of a block, from what the block's inputs hold. -/
theorem code_block (x0 : Arr 3 640 5120) (x1 : Arr 3 640 40) (x2 : Arr 3 640 1024) (x3 : Arr 3 640 8) (x4 : Arr 3 640 1024) (x5 : Arr 3 640 8)
    (b : Fin 3) (kv : Fin 8) (n C : Fin 640) :
    codeVal (attB (blkQ x0 b kv.val) (blkS x1 b) (blkK x2 b kv.val) (blkT x3 b) (blkK x4 b kv.val) (blkT x5 b) kv n.val (C.val / 128)) ⟨C.val % 128, Nat.mod_lt _ (by omega)⟩
      = codeA x0 x1 x2 x3 x4 x5 b n ⟨(640 * kv.val + C.val) % 5120, Nat.mod_lt _ (by omega)⟩ := by
  have hkv := kv.isLt
  have hC := C.isLt
  unfold codeA
  rw [show attB (blkQ x0 b kv.val) (blkS x1 b) (blkK x2 b kv.val) (blkT x3 b) (blkK x4 b kv.val) (blkT x5 b) kv n.val (C.val / 128) = attnA x0 x1 x2 x3 x4 x5 b n kv.val (C.val / 128) from
    funext fun d => attB_blocks x0 x1 x2 x3 x4 x5 b kv n _ (by omega) d]
  have e1 : (640 * kv.val + C.val) % 5120 / 640 = kv.val := by omega
  have e2 : (640 * kv.val + C.val) % 5120 / 128 % 5 = C.val / 128 := by omega
  have e3 : (640 * kv.val + C.val) % 5120 % 128 = C.val % 128 := by omega
  show _ = codeVal (attnA x0 x1 x2 x3 x4 x5 b n ((640 * kv.val + C.val) % 5120 / 640) ((640 * kv.val + C.val) % 5120 / 128 % 5)) ⟨(640 * kv.val + C.val) % 5120 % 128, _⟩
  rw [e1, e2]
  exact congrArg _ (Fin.ext e3.symm)

/-- Within a batch the next point has the same batch. -/
theorem bat_succ (t : ℕ) (h : (t + 1) % 8 ≠ 0) : bat (t + 1) = bat t := Fin.ext (by show (t + 1) / 8 % 3 = t / 8 % 3; omega)

variable (hx : ∀ i, 0 < a1 m c i ∧ a1 m c i < ⊤)

include hx in
set_option maxHeartbeats 4000000 in
/-- The body at any grid point. -/
theorem vbody : (vdat m c).BodyObligation (defs₀ (F := Ideal)) Variants.none () Set.univ := fun t Y hY => by
  rw [bigSep_W0, bigSep_W0]
  unfold defs₀; rw [Defs.onTc_tc]
  rw [show (vdat m c).Φ t.castSucc = Φv m c t.val from rfl, show (vdat m c).Φ t.succ = Φv m c (t.val + 1) from rfl,
    show (vdat m c).owesAt () t.succ = (vdat m c).owesAt () t.castSucc from rfl]
  unfold Φv
  simp only [owns_whole_eq, owns_whole c _ (hstage0_0 _), owns_whole c _ (hstage0_1 _), owns_whole c _ (hstage0_2 _), owns_whole c _ (hstage0_3 _), owns_whole c _ (hstage0_4 _), owns_whole c _ (hstage0_5 _), owns_whole c _ (hstage0_6 _), owns_whole c _ (hstage0_7 _)]
  iintro ⟨⟨⟨⟨%f8, %p8, H8⟩, ⟨%f9, %p9, H9⟩, ⟨%f10, %p10, H10⟩, ⟨%f11, H11⟩, ⟨%f12, %p12, H12⟩, ⟨%f13, %p13, H13⟩⟩, Hg⟩, Howes,
    ⟨%f0, %hf0, H0⟩, ⟨%f1, %hf1, H1⟩, ⟨%f2, %hf2, H2⟩, ⟨%f3, %hf3, H3⟩,
    ⟨%f4, %hf4, H4⟩, ⟨%f5, %hf5, H5⟩, ⟨%f6, %hf6, H6⟩, ⟨%f7, %hf7, H7⟩⟩
  have e0 : rd (c := c) (st0_0 t) f0 = _ := hf0.trans (find0 m c t _ (hY 0))
  have e1 : rd (c := c) (st0_1 t) f1 = _ := hf1.trans (find1 m c t _ (hY 1))
  have e2 : rd (c := c) (st0_2 t) f2 = _ := hf2.trans (find2 m c t _ (hY 2))
  have e3 : rd (c := c) (st0_3 t) f3 = _ := hf3.trans (find3 m c t _ (hY 3))
  have e4 : rd (c := c) (st0_4 t) f4 = _ := hf4.trans (find4 m c t _ (hY 4))
  have e5 : rd (c := c) (st0_5 t) f5 = _ := hf5.trans (find5 m c t _ (hY 5))
  have hi := head_at t
  have r10 : Ready10 (Memref.whole cc0_scratch0) (now10 c (grid0.coords t) (st0_1 t) (Memref.whole cc0_scratch0) f1 f8) (rd (c := c) (st0_1 t) f1) :=
    ready10 _ _ _ _ _ ((Classical.em (t.val % 8 = 0)).imp (fun h0 => hi.trans h0) fun h0 => show Ready10 _ f8 (rd (c := c) (st0_1 t) f1) by rw [e1]; exact p8 h0)
  have r11 : ReadyRow (Memref.whole cc0_scratch1) (now11 c (grid0.coords t) (st0_3 t) (Memref.whole cc0_scratch1) f3 f9) (rd (c := c) (st0_3 t) f3) :=
    ready11 _ _ _ _ _ ((Classical.em (t.val % 8 = 0)).imp (fun h0 => hi.trans h0) fun h0 => show ReadyRow _ f9 (rd (c := c) (st0_3 t) f3) by rw [e3]; exact p9 h0)
  have r12 : ReadyRow (Memref.whole cc0_scratch2) (now12 c (grid0.coords t) (st0_5 t) (Memref.whole cc0_scratch2) f5 f10) (rd (c := c) (st0_5 t) f5) :=
    ready12 _ _ _ _ _ ((Classical.em (t.val % 8 = 0)).imp (fun h0 => hi.trans h0) fun h0 => show ReadyRow _ f10 (rd (c := c) (st0_5 t) f5) by rw [e5]; exact p10 h0)
  have r14 : Ready14 (Memref.whole cc0_scratch4) (now14 c (grid0.coords t) (Memref.whole cc0_scratch4) f12) :=
    ready14 _ _ _ ((Classical.em (t.val % 8 = 0)).imp (fun h0 => hi.trans h0) p12)
  have hcode : ∀ n C : Fin 640, rd (c := c) (st0_6 t) ((st0_6 t).view.writes (Elt Ideal) (st0_6 t).view.junk (bodyRun.sl.H8_100 c (grid0.coords t) (st0_0 t) (st0_1 t) (st0_2 t) (st0_3 t) (st0_4 t) (st0_5 t) (Memref.whole cc0_scratch0) (Memref.whole cc0_scratch1) (Memref.whole cc0_scratch2) (Memref.whole cc0_scratch3) (Memref.whole cc0_scratch4)
      f0 f1 f2 f3 f4 f5 f8 f9 f10 f12)) (ix3 0 n C) = codeA (a0 m c) (a1 m c) (a2 m c) (a3 m c) (a4 m c) (a5 m c) (bat t.val) n ⟨(640 * (t.val % 8) + C.val) % 5120, Nat.mod_lt _ (by omega)⟩ := fun n C => by
    refine (codes_apply (grid0.coords t) (st0_0 t) (st0_1 t) (st0_2 t) (st0_3 t) (st0_4 t) (st0_5 t) (st0_6 t) (Memref.whole cc0_scratch0) (Memref.whole cc0_scratch1) (Memref.whole cc0_scratch2) (Memref.whole cc0_scratch3) (Memref.whole cc0_scratch4)
      f0 f1 f2 f3 f4 f5 (st0_6 t).view.junk f8 f9 f10 f12 r10 r11 r12 r14 (fun n H => by rw [e1]; exact mul_scale2_pos (hx _).1 (hx _).2) ⟨t.val % 8, Nat.mod_lt _ (by omega)⟩ hi.symm n C).trans ?_
    rw [e0, e1, e2, e3, e4, e5]
    exact code_block (a0 m c) (a1 m c) (a2 m c) (a3 m c) (a4 m c) (a5 m c) (bat t.val) ⟨t.val % 8, Nat.mod_lt _ (by omega)⟩ n C
  have hall : ∀ (k : Fin 8) (h : Fin 5) (n : Fin 640) (b : Fin 4), k.val ≤ t.val % 8 →
      rd (c := c) (Memref.whole cc0_scratch5) (buf15 (grid0.coords t) (st0_0 t) (st0_1 t) (st0_2 t) (st0_3 t) (st0_4 t) (st0_5 t) (Memref.whole cc0_scratch0) (Memref.whole cc0_scratch1) (Memref.whole cc0_scratch2) (Memref.whole cc0_scratch3) (Memref.whole cc0_scratch4) (Memref.whole cc0_scratch5)
      f0 f1 f2 f3 f4 f5 f8 f9 f10 f12 f13) (ix4 k h (rowOf h n b) n)
        = bexp (attnA (a0 m c) (a1 m c) (a2 m c) (a3 m c) (a4 m c) (a5 m c) (bat t.val) n k.val h.val) b := fun k h n b hk => by
    by_cases hk' : k.val = t.val % 8
    · refine (rows_new (grid0.coords t) (st0_0 t) (st0_1 t) (st0_2 t) (st0_3 t) (st0_4 t) (st0_5 t) (Memref.whole cc0_scratch0) (Memref.whole cc0_scratch1) (Memref.whole cc0_scratch2) (Memref.whole cc0_scratch3) (Memref.whole cc0_scratch4) (Memref.whole cc0_scratch5)
      f0 f1 f2 f3 f4 f5 f8 f9 f10 f12 f13 r10 r11 r12 r14 (fun n H => by rw [e1]; exact mul_scale2_pos (hx _).1 (hx _).2) k (hk'.trans hi.symm) h n b).trans ?_
      rw [e0, e1, e2, e3, e4, e5, ← hk']
      exact congrArg (fun o => bexp o b) (funext fun d => attB_blocks (a0 m c) (a1 m c) (a2 m c) (a3 m c) (a4 m c) (a5 m c) (bat t.val) k n h.val h.isLt d)
    · exact (rows_old (grid0.coords t) (st0_0 t) (st0_1 t) (st0_2 t) (st0_3 t) (st0_4 t) (st0_5 t) (Memref.whole cc0_scratch0) (Memref.whole cc0_scratch1) (Memref.whole cc0_scratch2) (Memref.whole cc0_scratch3) (Memref.whole cc0_scratch4) (Memref.whole cc0_scratch5)
      f0 f1 f2 f3 f4 f5 f8 f9 f10 f12 f13 k (fun e => hk' (e.trans hi)) h _ n).trans (p13 k h n b (by omega))
  have hrows : Rows m c (t.val + 1) (buf15 (grid0.coords t) (st0_0 t) (st0_1 t) (st0_2 t) (st0_3 t) (st0_4 t) (st0_5 t) (Memref.whole cc0_scratch0) (Memref.whole cc0_scratch1) (Memref.whole cc0_scratch2) (Memref.whole cc0_scratch3) (Memref.whole cc0_scratch4) (Memref.whole cc0_scratch5)
      f0 f1 f2 f3 f4 f5 f8 f9 f10 f12 f13) := fun k h n b hk => by
    rw [bat_succ t.val (by omega)]
    exact hall k h n b (by omega)
  have hfl : ∀ h7 : t.val % 8 = 7, ∀ (n : Fin 640) (B : Fin 160), _ := fun h7 n B =>
    (expos_apply (grid0.coords t) (st0_0 t) (st0_1 t) (st0_2 t) (st0_3 t) (st0_4 t) (st0_5 t) (Memref.whole cc0_scratch0) (Memref.whole cc0_scratch1) (Memref.whole cc0_scratch2) (Memref.whole cc0_scratch3) (Memref.whole cc0_scratch4) (Memref.whole cc0_scratch5)
      f0 f1 f2 f3 f4 f5 f8 f9 f10 f12 f13 (st0_7 t) f7 n B).trans (congrArg (BitVec.setWidth 8) (hall ⟨B.val / 20, by have := B.isLt; omega⟩ _ n _ (by have := B.isLt; show B.val / 20 ≤ _; omega)))
  iapply ((bodyRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f0 f1 f2 f3 f4 f5 f6 f7 f8 f9 f10 f11 f12 f13).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H0, H1, H2, H3, H4, H5, H6, H7, H8, H9, H10, H11, H12, H13⟩
  isplitl [H8 H9 H10 H11 H12 H13 Hg]
  · isplitr [Hg]
    · isplitl [H8]; · iexists now10 c (grid0.coords t) (st0_1 t) (Memref.whole cc0_scratch0) f1 f8; isplitr; swap; (· iexact H8); ipureintro; exact fun h => by rw [bat_succ _ h, ← e1]; exact r10
      isplitl [H9]; · iexists now11 c (grid0.coords t) (st0_3 t) (Memref.whole cc0_scratch1) f3 f9; isplitr; swap; (· iexact H9); ipureintro; exact fun h => by rw [bat_succ _ h, ← e3]; exact r11
      isplitl [H10]; · iexists now12 c (grid0.coords t) (st0_5 t) (Memref.whole cc0_scratch2) f5 f10; isplitr; swap; (· iexact H10); ipureintro; exact fun h => by rw [bat_succ _ h, ← e5]; exact r12
      isplitl [H11]; · iexists _; iexact H11
      isplitl [H12]; · iexists now14 c (grid0.coords t) (Memref.whole cc0_scratch4) f12; isplitr; swap; (· iexact H12); ipureintro; exact fun _ => r14
      iexists _; isplitr; swap; (· iexact H13); ipureintro; exact hrows
    · iexact Hg
  isplitl [Howes]; · iexact Howes
  isplitl [H0]; · iexists _; isplitr; swap; (· iexists _; isplitr; swap; (· iexact H0); ipureintro; exact hf0); ipureintro; exact rfl
  isplitl [H1]; · iexists _; isplitr; swap; (· iexists _; isplitr; swap; (· iexact H1); ipureintro; exact hf1); ipureintro; exact rfl
  isplitl [H2]; · iexists _; isplitr; swap; (· iexists _; isplitr; swap; (· iexact H2); ipureintro; exact hf2); ipureintro; exact rfl
  isplitl [H3]; · iexists _; isplitr; swap; (· iexists _; isplitr; swap; (· iexact H3); ipureintro; exact hf3); ipureintro; exact rfl
  isplitl [H4]; · iexists _; isplitr; swap; (· iexists _; isplitr; swap; (· iexact H4); ipureintro; exact hf4); ipureintro; exact rfl
  isplitl [H5]; · iexists _; isplitr; swap; (· iexists _; isplitr; swap; (· iexact H5); ipureintro; exact hf5); ipureintro; exact rfl
  isplitl [H6]; · iexists _; isplitr; swap; (· iexists _; isplitr; swap; (· iexact H6); ipureintro; exact rfl); ipureintro; exact hcode
  iexists _; isplitr; swap; (· iexists _; isplitr; swap; (· iexact H7); ipureintro; exact rfl); ipureintro
  exact fun h7 n B => (congrFun (congrArg (rd (c := c) (st0_7 t)) (dif_pos ((last_iff _).2 (hi.trans h7)))) (ix3 0 n B)).trans (hfl h7 n B)

end Cert.KernelIdeal.Body

end
-- ==== Proof.Run.lean ====
/-
  The arrays at the end of the kernel's run.
-/
module

public import proofs.«01_k».proof.Proof.Value

@[expose] public section

set_option maxRecDepth 16384

noncomputable section

namespace Cert.KernelIdeal.Body

open Cert.KernelIdeal Cert.KernelIdeal.Gen Cert.Soft
open Idealize.ShloMosaic
open Idealize.ShloMosaic.ValueIdx (ix3 eq_ix3)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

variable (m : (ℓ : Loc nD τ sig) → Buf (Elt Ideal) ℓ) (ρ : Dev nD → PrngReg)

/-- Before the first point nothing is asked of the scratch buffers. -/
theorem v_in (c : Dev nD) : Pipeline.ΦA spec0 c ⊢ (vdat m c).Φ 0 := by
  show Pipeline.ΦA spec0 c ⊢ Φv m c 0
  unfold Pipeline.ΦA Φv; rw [scopedRest0_eq]
  iintro ⟨⟨⟨%f8, H8⟩, ⟨%f9, H9⟩, ⟨%f10, H10⟩, ⟨%f11, H11⟩, ⟨%f12, H12⟩, ⟨%f13, H13⟩⟩, Hg⟩
  isplitr [Hg]
  · isplitl [H8]; · iexists f8; isplitr; swap; (· iexact H8); ipureintro; exact fun h => absurd rfl h
    isplitl [H9]; · iexists f9; isplitr; swap; (· iexact H9); ipureintro; exact fun h => absurd rfl h
    isplitl [H10]; · iexists f10; isplitr; swap; (· iexact H10); ipureintro; exact fun h => absurd rfl h
    isplitl [H11]; · iexists f11; iexact H11
    isplitl [H12]; · iexists f12; isplitr; swap; (· iexact H12); ipureintro; exact fun h => absurd rfl h
    iexists f13; isplitr; swap; (· iexact H13); ipureintro; exact fun k h n b hk => absurd hk (Nat.not_lt_zero _)
  · iexact Hg

/-- At the end the scratch buffers are given back, whatever they hold. -/
theorem v_out (c : Dev nD) : (vdat m c).Φ (Fin.last cfg0.N) ⊢ Pipeline.ΦA spec0 c := by
  show Φv m c cfg0.N ⊢ Pipeline.ΦA spec0 c
  unfold Pipeline.ΦA Φv; rw [scopedRest0_eq]
  iintro ⟨⟨⟨%f8, %p8, H8⟩, ⟨%f9, %p9, H9⟩, ⟨%f10, %p10, H10⟩, ⟨%f11, H11⟩, ⟨%f12, %p12, H12⟩, ⟨%f13, %p13, H13⟩⟩, Hg⟩
  isplitr [Hg]
  · isplitl [H8]; · iexists f8; iexact H8
    isplitl [H9]; · iexists f9; iexact H9
    isplitl [H10]; · iexists f10; iexact H10
    isplitl [H11]; · iexists f11; iexact H11
    isplitl [H12]; · iexists f12; iexact H12
    iexists f13; iexact H13
  · iexact Hg

/-- The array of codes at the end of the run. -/
def codesG (c : Dev nD) : Arr 3 640 5120 := fun y => codeA (a0 m c) (a1 m c) (a2 m c) (a3 m c) (a4 m c) (a5 m c) (y 0) (y 1) (y 2)

/-- At the end of the run the array of codes holds the codes of the attention outputs. -/
theorem codes_end (c : Dev nD) (r : PUnit × MemSt nD τ sig (Elt Ideal)) (h : RDat.FramePost cfg0 (vdat m) (V m) r) :
    r.2.mem ((c.tc : Thread nD τ).loc main_v0_0) = codesG m c := by
  obtain ⟨after, hL, hA⟩ := h.exists_exact c
  refine (hA 6).trans ?_
  refine ((vdat m c).withAfter after).arrAt_eq_of_covers 6 _ (by decide +kernel) fun t hf y => ?_
  obtain ⟨Y, -, hX⟩ := hL 6 t hf
  have hX' : ∀ n C : Fin 640, after 6 t (ix3 0 n C) = codeA (a0 m c) (a1 m c) (a2 m c) (a3 m c) (a4 m c) (a5 m c) (bat t.val) n ⟨(640 * (t.val % 8) + C.val) % 5120, Nat.mod_lt _ (by omega)⟩ := hX
  blk_simp
  have h0 : (y 0).val < 1 := (y 0).isLt
  have h2 : (y 2).val < 640 := (y 2).isLt
  obtain ⟨a, n, C, rfl⟩ : ∃ (a : Fin 1) (n C : Fin 640), y = ix3 a n C := ⟨_, _, _, eq_ix3 _⟩
  obtain rfl : a = 0 := Subsingleton.elim _ _
  refine (hX' n C).trans ?_
  have hC := C.isLt
  unfold codesG
  congr 1
  · exact Fin.ext (by blk_simp [index6]; simp [bat])
  · exact Fin.ext (by blk_simp [index6])
  · refine Fin.ext ?_
    have ht : t.val < 24 := t.isLt
    have e : (((ix3 (0 : Fin 1) n C) 2 : Fin _) : ℕ) = C.val := rfl
    have e' : (640 * (t.val % 8) + C.val) % 5120 = t.val % 8 * 640 + C.val := by omega
    refine e'.trans ?_
    blk_simp [index6]

/-- The array of exponents at the end of the run. -/
def exposG (c : Dev nD) : S3x640x160.Idx → BitVec 8 := fun y =>
  (IntOp.addi (expoA (a0 m c) (a1 m c) (a2 m c) (a3 m c) (a4 m c) (a5 m c) (y 0) (y 1) (y 2)) 127#32).setWidth 8

/-- The block of exponents of a point: that of its batch. -/
theorem index7 : ∀ t : Fin cfg0.N, win0_7.index t = ![t.val / 8 % 3, 0, 0] := (by decide +kernel : ∀ t : Fin grid0.N, _)

set_option maxHeartbeats 1000000 in
/-- At the end of the run the array of exponents holds the biased exponents of the attention outputs. -/
theorem expos_end (c : Dev nD) (r : PUnit × MemSt nD τ sig (Elt Ideal)) (h : RDat.FramePost cfg0 (vdat m) (V m) r) :
    r.2.mem ((c.tc : Thread nD τ).loc main_v0_1) = exposG m c := by
  obtain ⟨after, hL, hA⟩ := h.exists_exact c
  refine (hA 7).trans ?_
  refine ((vdat m c).withAfter after).arrAt_eq_of_covers 7 _ (by decide +kernel) fun t hf y => ?_
  obtain ⟨Y, -, hX⟩ := hL 7 t hf
  have hX' : ∀ (n : Fin 640) (B : Fin 160), after 7 t (ix3 0 n B) = exposG m c (ix3 (bat t.val) n B) :=
    (show Flushed m c t.val (after 7 t) from hX) ((flush0_7 t).1 hf)
  generalize exposG m c = G at hX' ⊢
  blk_simp
  have h0 : (y 0).val < 1 := (y 0).isLt
  obtain ⟨a, n, B, rfl⟩ : ∃ (a : Fin 1) (n : Fin 640) (B : Fin 160), y = ix3 a n B := ⟨_, _, _, eq_ix3 _⟩
  obtain rfl : a = 0 := Subsingleton.elim _ _
  refine (hX' n B).trans (congrArg G (funext fun z => Fin.ext ?_))
  fin_cases z
  · blk_simp [index7]; simp [bat]
  · blk_simp [index7]
  · blk_simp [index7]

/-- What is said of a run: the arguments as they were, the codes and exponents those of the attention outputs. -/
def ValuePost (r : PUnit × MemSt nD τ sig (Elt Ideal)) : Prop :=
  ∀ c : Dev nD, r.2.mem ((c.tc : Thread nD τ).loc main_v0_0) = codesG m c ∧ r.2.mem ((c.tc : Thread nD τ).loc main_v0_1) = exposG m c ∧
    (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))

set_option backward.isDefEq.respectTransparency.types false in
/-- The kernel's run from positive finite query scales. -/
theorem value_run (hx : ∀ c i, 0 < a1 m c i ∧ a1 m c i < ⊤) : θ_run defs (onTc (τ := τ) (main (F := Ideal))) ⟨m, fun _ => 0, ρ⟩ (ValuePost m) :=
  Pipeline.RDat.θ_run_frame_track cfgs 0 launch0 (defs₀ (F := Ideal)) Variants.none (vdat m) m ρ main
    (hbody := fun c => vbody m c (hx c)) (hshare := fun c => (vdat m c).share_full fun _ => rfl) (howed := fun _ _ => rfl)
    (V := V m) (hmain := hmain m Variants.none) (hA := fun _ _ => rfl) (hin := v_in m) (hout := v_out m)
    (Q' := ValuePost m)
    (hQ' := fun r h c => ⟨codes_end m c r h.1, expos_end m c r h.1, (h.1.arr_in c 0 rfl).trans (V_main_arg0 m c),
      (h.1.arr_in c 1 rfl).trans (V_main_arg1 m c),
      (h.1.arr_in c 2 rfl).trans (V_main_arg2 m c),
      (h.1.arr_in c 3 rfl).trans (V_main_arg3 m c),
      (h.1.arr_in c 4 rfl).trans (V_main_arg4 m c),
      (h.1.arr_in c 5 rfl).trans (V_main_arg5 m c)⟩)

end Cert.KernelIdeal.Body

end
-- ==== Proof.RefRead.lean ====
/-
  The reference read at an element: its codes and its exponents are those of the attention outputs.
-/
module

public import proofs.«01_k».proof.Proof.Gen.ReferenceIdeal.Frame
public import proofs.«01_k».proof.Proof.Spec
public import Idealize.ShloMosaic.Lib.Pipeline.ValueKit.Basic
public import Idealize.ShloMosaic.Lib.Pointwise.Contract
public import Idealize.ShloMosaic.Lib.Pipeline.Value

@[expose] public section

set_option maxRecDepth 16384

noncomputable section

namespace Cert.ReferenceIdeal.Read

open Cert.ReferenceIdeal Cert.ReferenceIdeal.Gen Cert.Soft
open Cert.KernelIdeal.Pair (mag peak expo8 code neg_inf one_f32)
open Idealize.ShloMosaic hiding ix1 ix2 ix3 ix4 ix5
open Idealize.ShloMosaic.ValueIdx
open Idealize.ShloMosaic.TcCoe

variable (x0 : Vec Ideal S3x640x5120 .fp8e4m3) (x1 : Vec Ideal S3x640x40 .f32) (x2 : Vec Ideal S3x640x1024 .fp8e4m3) (x3 : Vec Ideal S3x640x8 .f32)
  (x4 : Vec Ideal S3x640x1024 .fp8e4m3) (x5 : Vec Ideal S3x640x8 .f32)

/-! ### The layouts -/

/-- The reference's queries by batch, position, key head, group and column. -/
theorem q_cast (h) (b : Fin 3) (n : Fin 640) (kv : Fin 8) (g : Fin 5) (e : Fin 128) :
    (shapeCast S3x640x8x5x128 x0 h : FVec Ideal S3x640x8x5x128 .fp8e4m3) (ix5 b n kv g e)
      = x0 (ix3 b n ⟨(640 * kv.val + 128 * g.val + e.val) % 5120, Nat.mod_lt _ (by omega)⟩) := by
  have := kv.isLt; have := g.isLt; have := e.isLt
  refine shapeCast_apply _ _ _ _ ?_
  rw [Shape.rowMajor_val_three, Shape.rowMajor_val_five]
  show (b.val * 640 + n.val) * 5120 + (640 * kv.val + 128 * g.val + e.val) % 5120 = (((b.val * 640 + n.val) * 8 + kv.val) * 5 + g.val) * 128 + e.val
  omega

/-- The reference's keys, or values, by batch, position, key head and column. -/
theorem k_cast (x : Vec Ideal S3x640x1024 .fp8e4m3) (h) (b : Fin 3) (n : Fin 640) (kv : Fin 8) (e : Fin 128) :
    (shapeCast S3x640x8x128 x h : FVec Ideal S3x640x8x128 .fp8e4m3) (ix4 b n kv e)
      = x (ix3 b n ⟨(128 * kv.val + e.val) % 1024, Nat.mod_lt _ (by omega)⟩) := by
  have := kv.isLt; have := e.isLt
  refine shapeCast_apply _ _ _ _ ?_
  rw [Shape.rowMajor_val_three, Shape.rowMajor_val_four]
  show (b.val * 640 + n.val) * 1024 + (128 * kv.val + e.val) % 1024 = ((b.val * 640 + n.val) * 8 + kv.val) * 128 + e.val
  omega

/-- The reference's query scales spread over the scores. -/
theorem qs_cast (h0 h1 h2 h3) (b : Fin 3) (kv : Fin 8) (n : Fin 640) (g : Fin 5) (k : Fin 640) :
    (broadcastTo S3x8x640x5x640 (shapeCast S3x8x640x5x1 (transpose S3x8x640x5 [0, 2, 1, 3] (shapeCast S3x640x8x5 x1 h0) h1) h2) h3 : FVec Ideal S3x8x640x5x640 .f32) (ix5 b kv n g k)
      = x1 (ix3 b n ⟨(5 * kv.val + g.val) % 40, Nat.mod_lt _ (by omega)⟩) := by
  have := kv.isLt; have := g.isLt
  refine (broadcastTo_apply _ _ _ (ix5 b kv n g (0 : Fin 1)) fun a => by fin_cases a <;> rfl).trans ?_
  refine (shapeCast_apply _ _ _ (ix4 b kv n g) ?_).trans ?_
  · rw [Shape.rowMajor_val_four, Shape.rowMajor_val_five]
    show ((b.val * 8 + kv.val) * 640 + n.val) * 5 + g.val = (((b.val * 8 + kv.val) * 640 + n.val) * 5 + g.val) * 1 + 0
    omega
  refine (transpose_apply _ _ _ _ (ix4 b n kv g) fun a => by fin_cases a <;> rfl).trans ?_
  refine shapeCast_apply _ _ _ _ ?_
  rw [Shape.rowMajor_val_three, Shape.rowMajor_val_four]
  show (b.val * 640 + n.val) * 40 + (5 * kv.val + g.val) % 40 = ((b.val * 640 + n.val) * 8 + kv.val) * 5 + g.val
  omega

/-- The reference's key scales, or value scales, spread over the scores. -/
theorem ks_cast (x : Vec Ideal S3x640x8 .f32) (h1 h2 h3) (b : Fin 3) (kv : Fin 8) (n : Fin 640) (g : Fin 5) (k : Fin 640) :
    (broadcastTo S3x8x640x5x640 (shapeCast S3x8x1x1x640 (transpose S3x8x640 [0, 2, 1] x h1) h2) h3 : FVec Ideal S3x8x640x5x640 .f32) (ix5 b kv n g k)
      = x (ix3 b k kv) := by
  refine (broadcastTo_apply _ _ _ (ix5 b kv (0 : Fin 1) (0 : Fin 1) k) fun a => by fin_cases a <;> rfl).trans ?_
  refine (shapeCast_apply _ _ _ (ix3 b kv k) ?_).trans ?_
  · rw [Shape.rowMajor_val_three, Shape.rowMajor_val_five]
    show (b.val * 8 + kv.val) * 640 + k.val = (((b.val * 8 + kv.val) * 1 + 0) * 1 + 0) * 640 + k.val
    omega
  exact transpose_ix3_021_apply x _ b kv k

/-- A number per query spread over the keys. -/
theorem row_cast (x : FVec Ideal S3x8x640x5 .f32) (h2 h3) (b : Fin 3) (kv : Fin 8) (n : Fin 640) (g : Fin 5) (k : Fin 640) :
    (broadcastTo S3x8x640x5x640 (shapeCast S3x8x640x5x1 x h2) h3 : FVec Ideal S3x8x640x5x640 .f32) (ix5 b kv n g k) = x (ix4 b kv n g) := by
  refine (broadcastTo_apply _ _ _ (ix5 b kv n g (0 : Fin 1)) fun a => by fin_cases a <;> rfl).trans ?_
  refine shapeCast_apply _ _ _ (ix4 b kv n g) ?_
  rw [Shape.rowMajor_val_four, Shape.rowMajor_val_five]
  show ((b.val * 8 + kv.val) * 640 + n.val) * 5 + g.val = (((b.val * 8 + kv.val) * 640 + n.val) * 5 + g.val) * 1 + 0
  omega

/-! ### The reductions -/

/-- The maximum over the keys. -/
theorem rowMax (x : FVec Ideal S3x8x640x5x640 .f32) (hr : Shape.Reduces S3x8x640x5x640 [4] S3x8x640x5) (hφ : FKind.Formats .f32)
    (hacc : 0xFF800000#32 = FKind.maximumf.neutral .f32 hφ) (b : Fin 3) (kv : Fin 8) (n : Fin 640) (g : Fin 5) :
    multiReduction .maximumf [4] S3x8x640x5 x 0xFF800000#32 hr hφ hacc (ix4 b kv n g) = Finset.univ.sup fun k : Fin 640 => x (ix5 b kv n g k) := by
  rw [Ideal.multiReduction_maximumf_single]
  show Finset.fold max (Ideal.ofBits .f32 0xFF800000#32) _ _ = _
  rw [neg_inf]
  show Finset.sup Finset.univ _ = _
  refine Finset.sup_congr rfl fun (j : Fin 640) _ => ?_
  show x _ = _
  exact congrArg x (funext fun a => Fin.ext (by fin_cases a <;> rfl))

/-- The sum over the keys. -/
theorem rowSum (x : FVec Ideal S3x8x640x5x640 .f32) (hr : Shape.Reduces S3x8x640x5x640 [4] S3x8x640x5) (hφ : FKind.Formats .f32)
    (hacc : 0#32 = FKind.add.neutral .f32 hφ) (b : Fin 3) (kv : Fin 8) (n : Fin 640) (g : Fin 5) :
    multiReduction .add [4] S3x8x640x5 x 0#32 hr hφ hacc (ix4 b kv n g) = ∑ k : Fin 640, x (ix5 b kv n g k) := by
  rw [Ideal.multiReduction_add_single]
  refine Finset.sum_congr rfl fun (j : Fin 640) _ => ?_
  exact congrArg x (funext fun a => Fin.ext (by fin_cases a <;> rfl))

/-- The maximum over a block of 32 columns. -/
theorem blockMax (x : FVec Ideal S3x640x160x32 .f32) (hr : Shape.Reduces S3x640x160x32 [3] S3x640x160) (hφ : FKind.Formats .f32)
    (hacc : 0xFF800000#32 = FKind.maximumf.neutral .f32 hφ) (b : Fin 3) (n : Fin 640) (B : Fin 160) :
    multiReduction .maximumf [3] S3x640x160 x 0xFF800000#32 hr hφ hacc (ix3 b n B) = Finset.univ.sup fun j : Fin 32 => x (ix4 b n B j) := by
  rw [Ideal.multiReduction_maximumf_single]
  show Finset.fold max (Ideal.ofBits .f32 0xFF800000#32) _ _ = _
  rw [neg_inf]
  show Finset.sup Finset.univ _ = _
  refine Finset.sup_congr rfl fun (j : Fin 32) _ => ?_
  show x _ = _
  exact congrArg x (funext fun a => Fin.ext (by fin_cases a <;> rfl))

/-! ### The scores and their exponentials -/

/-- The score of key `k` before the mask. -/
def raw (b : Fin 3) (n : Fin 640) (kv g k : ℕ) : EReal :=
  ((∑ e : Fin 128, x2 (ix3 b ⟨k % 640, Nat.mod_lt _ (by omega)⟩ ⟨(128 * kv + e.val) % 1024, Nat.mod_lt _ (by omega)⟩)
      * x0 (ix3 b n ⟨(640 * kv + 128 * g + e.val) % 5120, Nat.mod_lt _ (by omega)⟩))
    * x1 (ix3 b n ⟨(5 * kv + g) % 40, Nat.mod_lt _ (by omega)⟩)) * x3 (ix3 b ⟨k % 640, Nat.mod_lt _ (by omega)⟩ ⟨kv % 8, Nat.mod_lt _ (by omega)⟩) * scale

/-- The causal comparison on words is that of the numbers. -/
theorem mask_word : ∀ n k : Fin 640, IntOp.cmpi .sge (BitVec.ofNat 32 n.val) (BitVec.ofNat 32 k.val) = BitVec.ofBool (decide (k.val ≤ n.val)) := by
  intro n k
  have hn := n.isLt
  have hk := k.isLt
  show BitVec.ofBool ((BitVec.ofNat 32 k.val).sle (BitVec.ofNat 32 n.val)) = _
  congr 1
  rw [BitVec.sle_eq_decide]
  congr 1
  rw [BitVec.toInt_eq_toNat_of_lt (by rw [BitVec.toNat_ofNat]; omega), BitVec.toInt_eq_toNat_of_lt (by rw [BitVec.toNat_ofNat]; omega), BitVec.toNat_ofNat, BitVec.toNat_ofNat]
  rw [Nat.mod_eq_of_lt (by omega), Nat.mod_eq_of_lt (by omega)]
  exact propext Int.ofNat_le

/-- The scores before scaling, at an element. -/
theorem scores_dot (l : FVec Ideal S3x640x8x5x128 .fp8e4m3) (r : FVec Ideal S3x640x8x128 .fp8e4m3) (b : Fin 3) (kv : Fin 8) (n : Fin 640) (g : Fin 5) (k : Fin 640) :
    matmul dot_S3x640x8x5x128_S3x640x8x128_S3x8x640x5x640_4_3_13_1_02_02 none l r (constant S3x8x640x5x640 .f32 0x00000000#32) (ix5 b kv n g k)
      = ∑ e : Fin 128, l (ix5 b n kv g e) * r (ix4 b k kv e) := by
  refine (Ideal.matmul_apply₁_of dot_S3x640x8x5x128_S3x640x8x128_S3x8x640x5x640_4_3_13_1_02_02 (a := 4) rfl (K := 128) rfl l r _ _ (fun e => ix5 b n kv g e) (fun e => ix4 b k kv e)
    (fun e => funext fun a => Fin.ext (by fin_cases a <;> rfl)) (fun e => funext fun a => Fin.ext (by fin_cases a <;> rfl))).trans ?_
  show Ideal.ofBits .f32 0#32 + _ = _
  rw [show Ideal.ofBits .f32 0#32 = 0 by simp [Ideal.ofBits, Ideal.ieee], zero_add]

/-- The weighted sum of values, at an element. -/
theorem values_dot (l : FVec Ideal S3x8x640x5x640 .bf16) (r : FVec Ideal S3x640x8x128 .bf16) (b : Fin 3) (kv : Fin 8) (n : Fin 640) (g : Fin 5) (d : Fin 128) :
    matmul dot_S3x8x640x5x640_S3x640x8x128_S3x8x640x5x128_4_1_23_3_01_02 none l r (constant S3x8x640x5x128 .f32 0x00000000#32) (ix5 b kv n g d)
      = ∑ k : Fin 640, l (ix5 b kv n g k) * r (ix4 b k kv d) := by
  refine (Ideal.matmul_apply₁_of dot_S3x8x640x5x640_S3x640x8x128_S3x8x640x5x128_4_1_23_3_01_02 (a := 4) rfl (K := 640) rfl l r _ _ (fun k => ix5 b kv n g k) (fun k => ix4 b k kv d)
    (fun e => funext fun a => Fin.ext (by fin_cases a <;> rfl)) (fun e => funext fun a => Fin.ext (by fin_cases a <;> rfl))).trans ?_
  show Ideal.ofBits .f32 0#32 + _ = _
  rw [show Ideal.ofBits .f32 0#32 = 0 by simp [Ideal.ofBits, Ideal.ieee], zero_add]

/-- The exponentials of the scores. -/
theorem pay3_apply (b : Fin 3) (kv : Fin 8) (n : Fin 640) (g : Fin 5) (k : Fin 640) :
    k0_pay3 x0 x2 x1 x3 (ix5 b kv n g k) = numE (masked n.val (raw x0 x1 x2 x3 b n kv.val g.val)) 640 k.val := by
  unfold k0_pay3
  generalize hS : select _ _ _ = S
  have e : ∀ k : Fin 640, S (ix5 b kv n g k) = masked n.val (raw x0 x1 x2 x3 b n kv.val g.val) k.val := by
    intro k
    rw [← hS]
    show Scalar.select (IntOp.cmpi .sge (iota .tc S3x8x640x5x640 32 [2] iota_S3x8x640x5x640_d2_w32 (ix5 b kv n g k)) (iota .tc S3x8x640x5x640 32 [4] iota_S3x8x640x5x640_d4_w32 (ix5 b kv n g k)))
      (((matmul dot_S3x640x8x5x128_S3x640x8x128_S3x8x640x5x640_4_3_13_1_02_02 none (shapeCast S3x640x8x5x128 x0 shapeCasts_S3x640x5120_S3x640x8x5x128 : FVec Ideal S3x640x8x5x128 .fp8e4m3)
          (shapeCast S3x640x8x128 x2 shapeCasts_S3x640x1024_S3x640x8x128 : FVec Ideal S3x640x8x128 .fp8e4m3) (constant S3x8x640x5x640 .f32 0x00000000#32 : FVec Ideal S3x8x640x5x640 .f32) (ix5 b kv n g k) : EReal)
        * broadcastTo S3x8x640x5x640 (shapeCast S3x8x640x5x1 (transpose S3x8x640x5 [0, 2, 1, 3] (shapeCast S3x640x8x5 x1 shapeCasts_S3x640x40_S3x640x8x5) transposes_S3x640x8x5_p0_2_1_3_S3x8x640x5)
            shapeCasts_S3x8x640x5_S3x8x640x5x1) broadcasts_S3x8x640x5x1_S3x8x640x5x640 (ix5 b kv n g k))
        * broadcastTo S3x8x640x5x640 (shapeCast S3x8x1x1x640 (transpose S3x8x640 [0, 2, 1] x3 transposes_S3x640x8_p0_2_1_S3x8x640) shapeCasts_S3x8x640_S3x8x1x1x640)
            broadcasts_S3x8x1x1x640_S3x8x640x5x640 (ix5 b kv n g k) * scale) (Ideal.ofBits .f32 0xFF800000#32) = _
    rw [iota_single_apply, iota_single_apply, show BitVec.ofNat 32 ((ix5 b kv n g k) 2).val = BitVec.ofNat 32 n.val from rfl, show BitVec.ofNat 32 ((ix5 b kv n g k) 4).val = BitVec.ofNat 32 k.val from rfl,
      mask_word, scores_dot, qs_cast, ks_cast, neg_inf]
    have hk : (⟨k.val % 640, Nat.mod_lt _ (by omega)⟩ : Fin 640) = k := Fin.ext (Nat.mod_eq_of_lt k.isLt)
    have hkv : (⟨kv.val % 8, Nat.mod_lt _ (by omega)⟩ : Fin 8) = kv := Fin.ext (Nat.mod_eq_of_lt kv.isLt)
    unfold masked raw
    rw [hk, hkv]
    simp only [q_cast, k_cast]
    by_cases h : k.val ≤ n.val
    · rw [decide_eq_true h, if_pos h]
      show _ * _ * _ * _ = _
      congr 3
      exact Finset.sum_congr rfl fun e _ => mul_comm _ _
    · rw [decide_eq_false h, if_neg h]
      rfl
  generalize hM : (shapeCast S3x8x640x5x1 _ _ : FVec Ideal S3x8x640x5x1 .f32) = M
  have eM : (broadcastTo S3x8x640x5x640 M broadcasts_S3x8x640x5x1_S3x8x640x5x640 : FVec Ideal S3x8x640x5x640 .f32) (ix5 b kv n g k) = Finset.univ.sup fun k : Fin 640 => S (ix5 b kv n g k) := by
    rw [← hM]
    exact (row_cast _ _ _ b kv n g k).trans (rowMax S _ _ _ b kv n g)
  show Ideal.exp (S (ix5 b kv n g k) - broadcastTo S3x8x640x5x640 M broadcasts_S3x8x640x5x1_S3x8x640x5x640 (ix5 b kv n g k)) = _
  rw [eM, e]
  unfold numE
  congr 2
  refine le_antisymm (Finset.sup_le fun j _ => ?_) (Finset.sup_le fun j hj => ?_)
  · rw [e j]
    exact Finset.le_sup (f := masked n.val (raw x0 x1 x2 x3 b n kv.val g.val)) (Finset.mem_range.2 j.isLt)
  · refine (le_of_eq (e ⟨j, Finset.mem_range.1 hj⟩).symm).trans ?_
    exact Finset.le_sup (f := fun k : Fin 640 => S (ix5 b kv n g k)) (Finset.mem_univ _)

/-- The sum of the exponentials of a query. -/
theorem pay4_apply (b : Fin 3) (kv : Fin 8) (n : Fin 640) (g : Fin 5) :
    k0_pay4 x0 x2 x1 x3 (ix5 b kv n g (0 : Fin 1)) = ∑ k ∈ Finset.range 640, numE (masked n.val (raw x0 x1 x2 x3 b n kv.val g.val)) 640 k := by
  unfold k0_pay4
  refine (shapeCast_apply _ _ _ (ix4 b kv n g) ?_).trans ?_
  · rw [Shape.rowMajor_val_four, Shape.rowMajor_val_five]
    show ((b.val * 8 + kv.val) * 640 + n.val) * 5 + g.val = (((b.val * 8 + kv.val) * 640 + n.val) * 5 + g.val) * 1 + 0
    omega
  rw [Finset.sum_range]
  refine (rowSum _ _ _ _ b kv n g).trans ?_
  exact Finset.sum_congr rfl fun j _ => pay3_apply x0 x1 x2 x3 b kv n g j

/-! ### The attention output -/

variable (hx : ∀ i, 0 < x1 i ∧ x1 i < ⊤)

include hx in
/-- The reference's exponentials are those in base two, the scales moved out of the maximum. -/
theorem num_eq (b : Fin 3) (n : Fin 640) (kv g k : ℕ) :
    numE (masked n.val (raw x0 x1 x2 x3 b n kv g)) 640 k
      = num (masked n.val fun k => (∑ e : Fin 128, x2 (ix3 b ⟨k % 640, Nat.mod_lt _ (by omega)⟩ ⟨(128 * kv + e.val) % 1024, Nat.mod_lt _ (by omega)⟩)
        * x0 (ix3 b n ⟨(640 * kv + 128 * g + e.val) % 5120, Nat.mod_lt _ (by omega)⟩)) * x3 (ix3 b ⟨k % 640, Nat.mod_lt _ (by omega)⟩ ⟨kv % 8, Nat.mod_lt _ (by omega)⟩))
        (x1 (ix3 b n ⟨(5 * kv + g) % 40, Nat.mod_lt _ (by omega)⟩) * scale2) 640 k :=
  numE_eq n.val _ _ (hx _).1 (hx _).2 640 k

include hx in
/-- The attention output, before it is stored. -/
theorem out_apply (b : Fin 3) (n : Fin 640) (B : Fin 160) (j : Fin 32) :
    k0_pay5 (k0_pay1 x4) (k0_pay2 x5) (k0_pay3 x0 x2 x1 x3) (k0_pay4 x0 x2 x1 x3) (Scalar.ofBits .f32 0x3F800000#32 : Ideal .f32) (ix4 b n B j)
      = attnA x0 x1 x2 x3 x4 x5 b n (B.val / 20) (B.val / 4 % 5) ⟨32 * (B.val % 4) + j.val, by omega⟩ := by
  have hB := B.isLt
  have hj := j.isLt
  obtain ⟨kv, hkv⟩ : ∃ kv : Fin 8, kv.val = B.val / 20 := ⟨⟨_, by omega⟩, rfl⟩
  obtain ⟨g, hg⟩ : ∃ g : Fin 5, g.val = B.val / 4 % 5 := ⟨⟨_, by omega⟩, rfl⟩
  obtain ⟨d, hd⟩ : ∃ d : Fin 128, d = ⟨32 * (B.val % 4) + j.val, by omega⟩ := ⟨_, rfl⟩
  have hd' : d.val = 32 * (B.val % 4) + j.val := by rw [hd]
  rw [← hd, ← hkv, ← hg]
  unfold k0_pay5
  refine (shapeCast_apply _ _ _ (ix5 b n kv g d) ?_).trans ?_
  · rw [Shape.rowMajor_val_four, Shape.rowMajor_val_five]
    show (((b.val * 640 + n.val) * 8 + kv.val) * 5 + g.val) * 128 + d.val = ((b.val * 640 + n.val) * 160 + B.val) * 32 + j.val
    omega
  refine (transpose_apply _ _ _ _ (ix5 b kv n g d) fun a => by fin_cases a <;> rfl).trans ?_
  rw [values_dot]
  unfold attnA attP
  rw [Finset.sum_range]
  refine Finset.sum_congr rfl fun k _ => ?_
  show (k0_pay3 x0 x2 x1 x3 (ix5 b kv n g k) * broadcastTo S3x8x640x5x640 (divf (broadcast S3x8x640x5x1 (Scalar.ofBits .f32 0x3F800000#32)) (k0_pay4 x0 x2 x1 x3)) broadcasts_S3x8x640x5x1_S3x8x640x5x640 (ix5 b kv n g k)
    * broadcastTo S3x8x640x5x640 (k0_pay2 x5) broadcasts_S3x8x1x1x640_S3x8x640x5x640 (ix5 b kv n g k)) * k0_pay1 x4 (ix4 b k kv d) = _
  rw [show k0_pay1 x4 (ix4 b k kv d) = _ from k_cast x4 _ b k kv d, show broadcastTo S3x8x640x5x640 (k0_pay2 x5) broadcasts_S3x8x1x1x640_S3x8x640x5x640 (ix5 b kv n g k) = _ from ks_cast x5 _ _ _ b kv n g k,
    broadcastTo_apply _ _ _ (ix5 b kv n g (0 : Fin 1)) (fun a => by fin_cases a <;> rfl)]
  show (_ * Ideal.div (Ideal.ofBits .f32 0x3F800000#32) (k0_pay4 x0 x2 x1 x3 (ix5 b kv n g (0 : Fin 1))) * _) * _ = _
  rw [pay3_apply, pay4_apply, one_f32]
  simp only [num_eq x0 x1 x2 x3 hx]
  have hk : (⟨k.val % 640, Nat.mod_lt _ (by omega)⟩ : Fin 640) = k := Fin.ext (Nat.mod_eq_of_lt k.isLt)
  have hkv : (⟨kv.val % 8, Nat.mod_lt _ (by omega)⟩ : Fin 8) = kv := Fin.ext (Nat.mod_eq_of_lt kv.isLt)
  unfold wt
  rw [hk, hkv, mul_comm, mul_comm (_ * Ideal.div _ _), ← mul_assoc]

/-- The exponent word by the operations the reference names. -/
theorem expLog_word (y : Ideal .f32) :
    Expo.expLog y = Scalar.select (FloatOps.cmpf .olt y (FloatOps.ofBits .f32 0x00800000#32)) 0#32
      (IntOp.addi (FloatOps.fptosi 32 (FloatOps.floor (FloatOps.divf (FloatOps.log y) (Named.named κ "log_2" 0x3F317218#32 : Ideal .f32)))) 1#32) := by
  rfl

/-- The reference's exponent out of the maximum of a block. -/
theorem expLog_tail (M : FVec Ideal S3x640x160 .f32) (i : S3x640x160.Idx) :
    (select (cmpf .olt (minimumf (mulf M (broadcast S3x640x160 (Scalar.ofBits .f32 0x3B124925#32 : Ideal .f32))) (broadcast S3x640x160 (Scalar.ofBits .f32 0x7B124924#32 : Ideal .f32)))
        (broadcast S3x640x160 (Scalar.ofBits .f32 0x00800000#32 : Ideal .f32))) (broadcast S3x640x160 0#32)
      (addi (fptosi 32 (floor (divf (log (minimumf (mulf M (broadcast S3x640x160 (Scalar.ofBits .f32 0x3B124925#32 : Ideal .f32))) (broadcast S3x640x160 (Scalar.ofBits .f32 0x7B124924#32 : Ideal .f32))))
        (broadcast S3x640x160 (Named.named κ "log_2" 0x3F317218#32 : Ideal .f32))))) (broadcast S3x640x160 1#32)) : IVec S3x640x160 32) i
      = Expo.expLog (min (M i * Ideal.ofBits .f32 991054117#32) (Ideal.ofBits .f32 2064795940#32)) :=
  (expLog_word _).symm

/-- The exponent of a block, from its attention outputs. -/
theorem pay6_scalar (v6 : FVec Ideal S3x640x8x128 .bf16) (v16 : FVec Ideal S3x8x1x1x640 .f32) (v33 : FVec Ideal S3x8x640x5x640 .f32) (v35 : FVec Ideal S3x8x640x5x1 .f32) (z : Ideal .f32)
    (b : Fin 3) (n : Fin 640) (B : Fin 160) :
    k0_pay6 v6 v16 v33 v35 z (ix3 b n B)
      = Expo.expLog (min ((Finset.univ.sup fun j : Fin 32 => mag (k0_pay5 v6 v16 v33 v35 z (ix4 b n B j))) * Ideal.ofBits .f32 991054117#32) (Ideal.ofBits .f32 2064795940#32)) := by
  unfold k0_pay6
  generalize k0_pay5 v6 v16 v33 v35 z = P
  refine (expLog_tail _ _).trans ?_
  rw [show (Finset.univ.sup fun j : Fin 32 => mag (P (ix4 b n B j))) = _ from (blockMax (absf P) reduces_S3x640x160x32_S3x640x160 (.inl rfl) rfl b n B).symm]

/-- A code, from the attention output and the exponent of its block. -/
theorem pay7_scalar (v6 : FVec Ideal S3x640x8x128 .bf16) (v16 : FVec Ideal S3x8x1x1x640 .f32) (v33 : FVec Ideal S3x8x640x5x640 .f32) (v35 : FVec Ideal S3x8x640x5x1 .f32) (z : Ideal .f32)
    (b : Fin 3) (n : Fin 640) (C : Fin 5120) (B : Fin 160) (j : Fin 32) (hB : B.val = C.val / 32) (hj : j.val = C.val % 32) :
    k0_pay7 v6 v16 v33 v35 z (ix3 b n C)
      = min (Ideal.ofBits .f32 1138753536#32) (max (Ideal.ofBits .f32 3286237184#32)
        (k0_pay5 v6 v16 v33 v35 z (ix4 b n B j) * Ideal.exp2 (Ideal.ofBits .f32 0#32 - (((k0_pay6 v6 v16 v33 v35 z (ix3 b n B)).toInt : ℝ) : EReal)))) := by
  unfold k0_pay7
  generalize k0_pay5 v6 v16 v33 v35 z = P
  generalize k0_pay6 v6 v16 v33 v35 z = Q
  have hC := C.isLt
  refine (shapeCast_apply _ _ _ (ix4 b n B j) ?_).trans ?_
  · rw [Shape.rowMajor_val_four, Shape.rowMajor_val_three]
    show ((b.val * 640 + n.val) * 160 + B.val) * 32 + j.val = (b.val * 640 + n.val) * 5120 + C.val
    omega
  generalize hX : (exp2 (subf (broadcast S3x640x160 _) (sitofp .f32 Q)) : FVec Ideal S3x640x160 .f32) = X
  have eX : X (ix3 b n B) = Ideal.exp2 (Ideal.ofBits .f32 0#32 - (((Q (ix3 b n B)).toInt : ℝ) : EReal)) := by rw [← hX]; rfl
  rw [← eX]
  have eW : (broadcastTo S3x640x160x32 (shapeCast S3x640x160x1 X shapeCasts_S3x640x160_S3x640x160x1 : FVec Ideal S3x640x160x1 .f32) broadcasts_S3x640x160x1_S3x640x160x32 : FVec Ideal S3x640x160x32 .f32) (ix4 b n B j) = X (ix3 b n B) := by
    refine (broadcastTo_apply _ _ _ (ix4 b n B (0 : Fin 1)) fun a => by fin_cases a <;> rfl).trans ?_
    refine shapeCast_apply _ _ _ (ix3 b n B) ?_
    rw [Shape.rowMajor_val_four, Shape.rowMajor_val_three]
    show (b.val * 640 + n.val) * 160 + B.val = ((b.val * 640 + n.val) * 160 + B.val) * 1 + 0
    omega
  rw [← eW]
  rfl

include hx in
/-- The exponents. -/
theorem expo_apply (b : Fin 3) (n : Fin 640) (B : Fin 160) :
    k0_pay6 (k0_pay1 x4) (k0_pay2 x5) (k0_pay3 x0 x2 x1 x3) (k0_pay4 x0 x2 x1 x3) (Scalar.ofBits .f32 0x3F800000#32 : Ideal .f32) (ix3 b n B)
      = expoA x0 x1 x2 x3 x4 x5 b n B := by
  have hB := B.isLt
  rw [pay6_scalar]
  simp only [out_apply x0 x1 x2 x3 x4 x5 hx]
  unfold expoA expoVal
  rw [expo8_eq]
  unfold peak
  have e4 : ∀ i : Fin 32, (⟨32 * (32 * (B.val % 4) / 32) + i.val, by omega⟩ : Fin 128) = ⟨32 * (B.val % 4) + i.val, by omega⟩ := fun i =>
    Fin.ext (by show 32 * (32 * (B.val % 4) / 32) + i.val = 32 * (B.val % 4) + i.val; omega)
  simp only [e4]

include hx in
/-- The codes. -/
theorem codes_apply (b : Fin 3) (n : Fin 640) (C : Fin 5120) :
    k0_pay7 (k0_pay1 x4) (k0_pay2 x5) (k0_pay3 x0 x2 x1 x3) (k0_pay4 x0 x2 x1 x3) (Scalar.ofBits .f32 0x3F800000#32 : Ideal .f32) (ix3 b n C)
      = codeA x0 x1 x2 x3 x4 x5 b n C := by
  have hC := C.isLt
  obtain ⟨B, hB⟩ : ∃ B : Fin 160, B.val = C.val / 32 := ⟨⟨_, by omega⟩, rfl⟩
  obtain ⟨j, hj⟩ : ∃ j : Fin 32, j.val = C.val % 32 := ⟨⟨_, by omega⟩, rfl⟩
  have hj' := j.isLt
  have e1 : B.val / 20 = C.val / 640 := by omega
  have e2 : B.val / 4 % 5 = C.val / 128 % 5 := by omega
  rw [pay7_scalar _ _ _ _ _ b n C B j hB hj, expo_apply x0 x1 x2 x3 x4 x5 hx, out_apply x0 x1 x2 x3 x4 x5 hx, show Ideal.ofBits .f32 0#32 = 0 by simp [Ideal.ofBits, Ideal.ieee]]
  unfold expoA expoVal
  rw [← inv_expo8]
  unfold codeA codeVal code expoVal
  rw [e1, e2]
  have e3 : (⟨32 * (B.val % 4) + j.val, by omega⟩ : Fin 128) = ⟨C.val % 128, Nat.mod_lt _ (by omega)⟩ := Fin.ext (by show 32 * (B.val % 4) + j.val = C.val % 128; omega)
  rw [e3]
  have e4 : ∀ i : Fin 32, (⟨32 * (32 * (B.val % 4) / 32) + i.val, by omega⟩ : Fin 128) = ⟨32 * (C.val % 128 / 32) + i.val, by omega⟩ := fun i =>
    Fin.ext (by show 32 * (32 * (B.val % 4) / 32) + i.val = 32 * (C.val % 128 / 32) + i.val; omega)
  simp only [e4]

/-! ### The outputs of the reference -/

include hx in
/-- The reference's code at an element. -/
theorem out6_apply (b : Fin 3) (n : Fin 640) (C : Fin 5120) : out0_6 x0 x1 x2 x3 x4 x5 (ix3 b n C) = codeA x0 x1 x2 x3 x4 x5 b n C := by
  unfold out0_6 k0_pay9 k0_pay10 k0_pay11 k0_pay12
  rw [View.canon_cons_unit_lit _ _ _ (fun a => by fin_cases a <;> rfl)]
  unfold r0_0 r0_1 r0_2 r0_3
  rw [View.ld_unit_lit _ x0 (fun a => by fin_cases a <;> rfl), View.ld_unit_lit _ x1 (fun a => by fin_cases a <;> rfl), View.ld_unit_lit _ x2 (fun a => by fin_cases a <;> rfl),
    View.ld_unit_lit _ x3 (fun a => by fin_cases a <;> rfl), View.ld_unit_lit _ x4 (fun a => by fin_cases a <;> rfl), View.ld_unit_lit _ x5 (fun a => by fin_cases a <;> rfl)]
  exact codes_apply x0 x1 x2 x3 x4 x5 hx b n C

include hx in
/-- The reference's exponent at an element. -/
theorem out7_apply (b : Fin 3) (n : Fin 640) (B : Fin 160) :
    out0_7 x0 x1 x2 x3 x4 x5 (ix3 b n B) = (IntOp.addi (expoA x0 x1 x2 x3 x4 x5 b n B) 127#32).setWidth 8 := by
  unfold out0_7 k0_pay9 k0_pay10 k0_pay11 k0_pay12
  rw [View.canon_cons_unit_lit _ _ _ (fun a => by fin_cases a <;> rfl)]
  unfold r0_1 r0_2 r0_3
  rw [View.ld_unit_lit _ x0 (fun a => by fin_cases a <;> rfl), View.ld_unit_lit _ x1 (fun a => by fin_cases a <;> rfl), View.ld_unit_lit _ x2 (fun a => by fin_cases a <;> rfl),
    View.ld_unit_lit _ x3 (fun a => by fin_cases a <;> rfl), View.ld_unit_lit _ x4 (fun a => by fin_cases a <;> rfl), View.ld_unit_lit _ x5 (fun a => by fin_cases a <;> rfl)]
  rw [← expo_apply x0 x1 x2 x3 x4 x5 hx]
  rfl

end Cert.ReferenceIdeal.Read

end
-- ==== Proof.RefRun.lean ====
/-
  The arrays at the end of the reference's run.
-/
module

public import proofs.«01_k».proof.Proof.RefRead
public import Idealize.ShloMosaic.Lib.Pipeline.Value
public import Idealize.ShloMosaic.Lib.Quiescent
public import Idealize.ShloMosaic.Lib.Pipeline.ValueKit

@[expose] public section

set_option maxRecDepth 16384

noncomputable section

namespace Cert.ReferenceIdeal.Read

open Cert.ReferenceIdeal Cert.ReferenceIdeal.Gen
open Idealize.ShloMosaic Idealize.SL.Sem
open Idealize.ShloMosaic.TcCoe Idealize.ShloMosaic.Tactic

variable (m : (ℓ : Loc nD τ sig) → Buf (Elt Ideal) ℓ) (ρ : Dev nD → PrngReg)

/-- The reference's block is the whole argument. -/
theorem iblk0 (c : Dev nD) (t) : iblk m c 0 t = m ((c.tc : Thread nD τ).loc main_arg0) := by
  funext y; unfold iblk; blk_simp
  exact congrArg (m ((c.tc : Thread nD τ).loc main_arg0)) (funext fun a => Fin.ext (by fin_cases a <;> blk_simp <;> simp <;> rfl))
/-- The reference's block is the whole argument. -/
theorem iblk1 (c : Dev nD) (t) : iblk m c 1 t = m ((c.tc : Thread nD τ).loc main_arg1) := by
  funext y; unfold iblk; blk_simp
  exact congrArg (m ((c.tc : Thread nD τ).loc main_arg1)) (funext fun a => Fin.ext (by fin_cases a <;> blk_simp <;> simp <;> rfl))
/-- The reference's block is the whole argument. -/
theorem iblk2 (c : Dev nD) (t) : iblk m c 2 t = m ((c.tc : Thread nD τ).loc main_arg2) := by
  funext y; unfold iblk; blk_simp
  exact congrArg (m ((c.tc : Thread nD τ).loc main_arg2)) (funext fun a => Fin.ext (by fin_cases a <;> blk_simp <;> simp <;> rfl))
/-- The reference's block is the whole argument. -/
theorem iblk3 (c : Dev nD) (t) : iblk m c 3 t = m ((c.tc : Thread nD τ).loc main_arg3) := by
  funext y; unfold iblk; blk_simp
  exact congrArg (m ((c.tc : Thread nD τ).loc main_arg3)) (funext fun a => Fin.ext (by fin_cases a <;> blk_simp <;> simp <;> rfl))
/-- The reference's block is the whole argument. -/
theorem iblk4 (c : Dev nD) (t) : iblk m c 4 t = m ((c.tc : Thread nD τ).loc main_arg4) := by
  funext y; unfold iblk; blk_simp
  exact congrArg (m ((c.tc : Thread nD τ).loc main_arg4)) (funext fun a => Fin.ext (by fin_cases a <;> blk_simp <;> simp <;> rfl))
/-- The reference's block is the whole argument. -/
theorem iblk5 (c : Dev nD) (t) : iblk m c 5 t = m ((c.tc : Thread nD τ).loc main_arg5) := by
  funext y; unfold iblk; blk_simp
  exact congrArg (m ((c.tc : Thread nD τ).loc main_arg5)) (funext fun a => Fin.ext (by fin_cases a <;> blk_simp <;> simp <;> rfl))

/-- The reference's array of codes at the end of the run: the body's result of the whole arguments. -/
theorem codes_end (c : Dev nD) (r : PUnit × MemSt nD τ sig (Elt Ideal)) (h : Pipeline.FramePost cfgs (dats m) 0 (V m) r) :
    r.2.mem ((c.tc : Thread nD τ).loc main_v0_0)
      = out0_6 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine ((h c).1 6).trans ?_
  refine (dats m 0 c).arrAt_eq_of_covers 6 _ (by decide +kernel) fun t hf y => ?_
  rw [after0_6, iblk0, iblk1, iblk2, iblk3, iblk4, iblk5]
  generalize out0_6 (F := Ideal) _ _ _ _ _ _ = G
  blk_simp
  exact congrArg G (funext fun a => Fin.ext (by fin_cases a <;> blk_simp <;> simp <;> rfl))

/-- The reference's array of exponents at the end of the run. -/
theorem expos_end (c : Dev nD) (r : PUnit × MemSt nD τ sig (Elt Ideal)) (h : Pipeline.FramePost cfgs (dats m) 0 (V m) r) :
    r.2.mem ((c.tc : Thread nD τ).loc main_v0_1)
      = out0_7 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine ((h c).1 7).trans ?_
  refine (dats m 0 c).arrAt_eq_of_covers 7 _ (by decide +kernel) fun t hf y => ?_
  rw [after0_7, iblk0, iblk1, iblk2, iblk3, iblk4, iblk5]
  generalize out0_7 (F := Ideal) _ _ _ _ _ _ = G
  blk_simp
  exact congrArg G (funext fun a => Fin.ext (by fin_cases a <;> blk_simp <;> simp <;> rfl))

/-- The reference's run: its results those of the body, its arguments as they were. -/
theorem value_run : θ_run defs (onTc (τ := τ) (main (F := Ideal))) ⟨m, fun _ => 0, ρ⟩ (fun r => ∀ c : Dev nD,
      r.2.mem ((c.tc : Thread nD τ).loc main_v0_0)
        = out0_6 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_v0_1)
        = out0_7 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨codes_end m c r h.1, expos_end m c r h.1, h.2 c⟩) (θ_run_and (run_main m ρ) (unchanged m ρ))

end Cert.ReferenceIdeal.Read

end
-- ==== Proof.Claims.lean ====
/-
  The value claim: from finite positive query scales the idealized kernel and the reference end with the same codes and exponents.
-/
module

public import proofs.«01_k».proof.Defs
public import proofs.«01_k».proof.Proof.Run
public import proofs.«01_k».proof.Proof.RefRun
public import Idealize.ShloMosaic.Lib.ReduceAll

@[expose] public section

set_option maxRecDepth 16384

noncomputable section

namespace Cert.Pre_positive_query_scales

open Idealize.ShloMosaic

/-- The side conditions of the precondition. -/
instance facts : Facts where
  bcast_S_S3x640x40 := by decide
  reducesTo_S3x640x40_S_d0_1_2 := by decide
  h_S_ := by decide

/-- The precondition read: every query scale is a positive real. -/
theorem fn_pos (x0 : FVec Ideal S3x640x5120 .fp8e4m3) (x1 : FVec Ideal S3x640x40 .f32) (x2 : FVec Ideal S3x640x1024 .fp8e4m3)
    (x3 : FVec Ideal S3x640x8 .f32) (x4 : FVec Ideal S3x640x1024 .fp8e4m3) (x5 : FVec Ideal S3x640x8 .f32)
    (h : ∀ j, fn (F := Ideal) x0 x1 x2 x3 x4 x5 j = 1#1) (i : S3x640x40.Idx) : (0 : EReal) < x1 i ∧ x1 i < (⊤ : EReal) := by
  have hs : Subsingleton S_.Idx := ⟨fun a b => funext fun k => k.elim0⟩
  have e := Host.reduce_andi_all _ _ _ _ (fun k => k.elim0) (h _) i
  obtain ⟨e1, e2⟩ := IntOp.andi_eq_one.1 e
  constructor
  · have e1' : Ideal.cmp .ogt (x1 i) (Ideal.ofBits .f32 0x00000000#32) = 1#1 := e1
    have hz : Ideal.ofBits .f32 0x00000000#32 = 0 := by simp [Ideal.ofBits, Ideal.ieee]
    rw [hz] at e1'
    by_contra hn
    simp [Ideal.cmp, hn] at e1'
  · have e2' : Ideal.cmp .olt (x1 i) (Ideal.ofBits .f32 0x7F800000#32) = 1#1 := e2
    have hz : Ideal.ofBits .f32 0x7F800000#32 = ⊤ := by simp [Ideal.ofBits, Ideal.ieee]
    rw [hz] at e2'
    by_contra hn
    simp [Ideal.cmp, hn] at e2'

end Cert.Pre_positive_query_scales

namespace Cert.Proof

open Idealize.ShloMosaic hiding ix1 ix2 ix3 ix4 ix5
open Idealize.SL.Sem
open Idealize.ShloMosaic.ValueIdx (ix3 eq_ix3)

/-- The idealized kernel and the reference, from equal arguments with positive finite query scales, end with the same codes and
    the same exponents. -/
theorem algebraic : Cert.algebraic_KernelIdeal_ReferenceIdeal_pre_positive_query_scales := by
  intro m g m' g' hpre hag
  have hx : ∀ c i, 0 < Cert.KernelIdeal.Body.a1 m c i ∧ Cert.KernelIdeal.Body.a1 m c i < ⊤ := fun c i =>
    Cert.Pre_positive_query_scales.fn_pos _ _ _ _ _ _ (congrFun (hpre c)) i
  refine ⟨fun c => Cert.KernelIdeal.Body.codesG m c, fun c => Cert.KernelIdeal.Body.exposG m c, Cert.KernelIdeal.Body.value_run m g hx, ?_⟩
  refine (θ_run Cert.ReferenceIdeal.defs _ _).mono (fun r h c => ⟨(h c).1.trans ?_, (h c).2.1.trans ?_, (h c).2.2⟩)
    (Cert.ReferenceIdeal.Read.value_run m' g')
  · obtain ⟨h0, h1, h2, h3, h4, h5⟩ := hag c
    rw [h0, h1, h2, h3, h4, h5]
    funext i
    obtain ⟨b, n, C, rfl⟩ : ∃ (b : Fin 3) (n : Fin 640) (C : Fin 5120), i = ix3 b n C := ⟨_, _, _, Idealize.ShloMosaic.ValueIdx.eq_ix3 _⟩
    exact Cert.ReferenceIdeal.Read.out6_apply _ _ _ _ _ _ (hx c) b n C
  · obtain ⟨h0, h1, h2, h3, h4, h5⟩ := hag c
    rw [h0, h1, h2, h3, h4, h5]
    funext i
    obtain ⟨b, n, B, rfl⟩ : ∃ (b : Fin 3) (n : Fin 640) (B : Fin 160), i = ix3 b n B := ⟨_, _, _, Idealize.ShloMosaic.ValueIdx.eq_ix3 _⟩
    exact Cert.ReferenceIdeal.Read.out7_apply _ _ _ _ _ _ (hx c) b n B

end Cert.Proof

end
-- ==== Proof.lean ====
module

public import proofs.«01_k».proof.Defs
public import proofs.«01_k».proof.Proof.KernelFrame
public import proofs.«01_k».proof.Proof.KernelIdealFrame
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Lib.Quiescent
public import Idealize.ShloMosaic.Adequacy
public import Idealize.ShloMosaic.Init

@[expose] public section

noncomputable section

namespace Cert.Proof

open Idealize.ShloMosaic Idealize.SL.Sem

/-- The kernel as written, on machine words, runs to its end without a fault and leaves its arguments as they were. -/
theorem frame_p : Cert.quiescent_Kernel := fun m ρ _ => Cert.Kernel.Body.frame_quiescent m ρ

/-- The idealized kernel does too, over the extended reals. -/
theorem frame_pi : Cert.quiescent_KernelIdeal := fun m ρ _ => Cert.KernelIdeal.Body.frame_quiescent m ρ

/-- In particular from finite positive query scales. -/
theorem frame_pi_pre : Cert.quiescent_KernelIdeal_pre_positive_query_scales := fun m ρ _ => Cert.KernelIdeal.Body.frame_quiescent m ρ

/-- And so does the reference. -/
theorem frame_ri : Cert.quiescent_ReferenceIdeal := fun m ρ _ => Cert.ReferenceIdeal.Gen.frame m ρ

/-- In particular from finite positive query scales. -/
theorem frame_ri_pre : Cert.quiescent_ReferenceIdeal_pre_positive_query_scales := fun m ρ _ => Cert.ReferenceIdeal.Gen.frame m ρ

/-- The one rewrite of the idealization: the float constant of the softmax's exponent names the real `1 / (√128 · log 2)`. -/
theorem preserves : Cert.preserves_Kernel_KernelIdeal :=
  IdealRules.named_const.statement Cert.KernelIdeal.κ "exp2_scale" .f32 0x3E0293EE#32
    (((Real.sqrt 128)⁻¹ * (Real.log 2)⁻¹ : ℝ) : EReal) rfl

/-- All the claims, and the side conditions of the programs. -/
theorem claim : Cert.Claim :=
  ⟨Cert.Kernel.Gen.facts, Cert.KernelIdeal.Gen.facts, Cert.ReferenceIdeal.Gen.facts, Cert.Pre_positive_query_scales.facts,
    frame_p, frame_pi, frame_pi_pre, frame_ri, frame_ri_pre, preserves, algebraic⟩

end Cert.Proof

end
